-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_near [hPre_few_near : Cert.Pre_few_near.Facts] (m : (ℓ : Loc Cert.KernelIdeal.nD Cert.KernelIdeal.τ Cert.KernelIdeal.sig) → Buf (Elt Ideal) ℓ) : Prop :=
  ∀ c : Dev Cert.KernelIdeal.nD,
    (Cert.Pre_few_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_few_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_few_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_few_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_near [hPre_few_near : Cert.Pre_few_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_few_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_few_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_few_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_few_near [hKernelIdeal : Cert.KernelIdeal.Facts] [hPre_few_near : Cert.Pre_few_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_near m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_few_near [hReferenceIdeal : Cert.ReferenceIdeal.Facts] [hPre_few_near : Cert.Pre_few_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_few_near [hKernelIdeal : Cert.KernelIdeal.Facts] [hReferenceIdeal : Cert.ReferenceIdeal.Facts] [hPre_few_near : Cert.Pre_few_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_near m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_few_near : Cert.Pre_few_near.Facts),
    quiescent_Kernel (hKernel := hKernel)
    ∧ quiescent_KernelIdeal (hKernelIdeal := hKernelIdeal)
    ∧ quiescent_KernelIdeal_pre_few_near (hKernelIdeal := hKernelIdeal) (hPre_few_near := hPre_few_near)
    ∧ quiescent_ReferenceIdeal (hReferenceIdeal := hReferenceIdeal)
    ∧ quiescent_ReferenceIdeal_pre_few_near (hReferenceIdeal := hReferenceIdeal) (hPre_few_near := hPre_few_near)
    ∧ preserves_Kernel_KernelIdeal
    ∧ algebraic_KernelIdeal_ReferenceIdeal_pre_few_near (hKernelIdeal := hKernelIdeal) (hReferenceIdeal := hReferenceIdeal) (hPre_few_near := hPre_few_near)
-- ==== Pre_few_near.lean ====
abbrev S8x16x12 : Shape := ⟨3, ![8, 16, 12]⟩
abbrev S8x16x1024x6 : Shape := ⟨4, ![8, 16, 1024, 6]⟩
abbrev S8x16x4096x6 : Shape := ⟨4, ![8, 16, 4096, 6]⟩
abbrev S1x21x3 : Shape := ⟨3, ![1, 21, 3]⟩
abbrev S6x128 : Shape := ⟨2, ![6, 128]⟩
abbrev S128 : Shape := ⟨1, ![128]⟩
abbrev S128x256 : Shape := ⟨2, ![128, 256]⟩
abbrev S256 : Shape := ⟨1, ![256]⟩
abbrev S268x512 : Shape := ⟨2, ![268, 512]⟩
abbrev S512 : Shape := ⟨1, ![512]⟩
abbrev S512x60 : Shape := ⟨2, ![512, 60]⟩
abbrev S60 : Shape := ⟨1, ![60]⟩
abbrev S3x128 : Shape := ⟨2, ![3, 128]⟩
abbrev S256x256 : Shape := ⟨2, ![256, 256]⟩
abbrev S256x3 : Shape := ⟨2, ![256, 3]⟩
abbrev S3 : Shape := ⟨1, ![3]⟩
abbrev S128x1024x6 : Shape := ⟨3, ![128, 1024, 6]⟩
abbrev S128x1024x128 : Shape := ⟨3, ![128, 1024, 128]⟩
abbrev S1x1x128 : Shape := ⟨3, ![1, 1, 128]⟩
abbrev S_ : Shape := ⟨0, ![]⟩
abbrev S128x128 : Shape := ⟨2, ![128, 128]⟩
abbrev S1x256 : Shape := ⟨2, ![1, 256]⟩
abbrev S8x16x256 : Shape := ⟨3, ![8, 16, 256]⟩
abbrev S8x16x268 : Shape := ⟨3, ![8, 16, 268]⟩
abbrev S128x268 : Shape := ⟨2, ![128, 268]⟩
abbrev S128x512 : Shape := ⟨2, ![128, 512]⟩
abbrev S1x512 : Shape := ⟨2, ![1, 512]⟩
abbrev S128x60 : Shape := ⟨2, ![128, 60]⟩
abbrev S1x60 : Shape := ⟨2, ![1, 60]⟩
abbrev S128x20x3 : Shape := ⟨3, ![128, 20, 3]⟩
abbrev S128x4096x6 : Shape := ⟨3, ![128, 4096, 6]⟩
abbrev S128x20x1x3 : Shape := ⟨4, ![128, 20, 1, 3]⟩
abbrev S128x4096x3 : Shape := ⟨3, ![128, 4096, 3]⟩
abbrev S128x1x4096x3 : Shape := ⟨4, ![128, 1, 4096, 3]⟩
abbrev S128x20x4096x3 : Shape := ⟨4, ![128, 20, 4096, 3]⟩
abbrev S128x20x4096 : Shape := ⟨3, ![128, 20, 4096]⟩
abbrev S128x20 : Shape := ⟨2, ![128, 20]⟩

class Facts : Prop where
  shapeCasts_S8x16x1024x6_S128x1024x6 : S8x16x1024x6.ShapeCasts S128x1024x6
  bcast_S128_S1x1x128_2 : S128.BroadcastsInDim S1x1x128 (![2] : Fin 1 → Fin S1x1x128.rank)
  bcast_S1x1x128_S128x1024x128_0_1_2 : S1x1x128.BroadcastsInDim S128x1024x128 (![0, 1, 2] : Fin 3 → Fin S128x1024x128.rank)
  bcast_S_S128x1024x128 : S_.BroadcastsInDim S128x1024x128 (![] : Fin 0 → Fin S128x1024x128.rank)
  reducesTo_S128x1024x128_S128x128_d1 : S128x1024x128.ReducesTo [1] S128x128
  h_S_ : 0 < S_.numel
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  shapeCasts_S128x256_S8x16x256 : S128x256.ShapeCasts S8x16x256
  concatenates_S8x16x12_S8x16x256_S8x16x268_d2 : Shape.Concatenates [S8x16x12, S8x16x256] S8x16x268 2
  shapeCasts_S8x16x268_S128x268 : S8x16x268.ShapeCasts S128x268
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S60_S1x60_1 : S60.BroadcastsInDim S1x60 (![1] : Fin 1 → Fin S1x60.rank)
  bcast_S1x60_S128x60_0_1 : S1x60.BroadcastsInDim S128x60 (![0, 1] : Fin 2 → Fin S128x60.rank)
  shapeCasts_S128x60_S128x20x3 : S128x60.ShapeCasts S128x20x3
  shapeCasts_S8x16x4096x6_S128x4096x6 : S8x16x4096x6.ShapeCasts S128x4096x6
  bcast_S128x20x3_S128x20x1x3_0_1_3 : S128x20x3.BroadcastsInDim S128x20x1x3 (![0, 1, 3] : Fin 3 → Fin S128x20x1x3.rank)
  slices_S128x4096x6_S128x4096x3_0_0_0 : S128x4096x6.Slices ![0, 0, 0] S128x4096x3
  bcast_S128x4096x3_S128x1x4096x3_0_2_3 : S128x4096x3.BroadcastsInDim S128x1x4096x3 (![0, 2, 3] : Fin 3 → Fin S128x1x4096x3.rank)
  bcast_S128x20x1x3_S128x20x4096x3_0_1_2_3 : S128x20x1x3.BroadcastsInDim S128x20x4096x3 (![0, 1, 2, 3] : Fin 4 → Fin S128x20x4096x3.rank)
  bcast_S128x1x4096x3_S128x20x4096x3_0_1_2_3 : S128x1x4096x3.BroadcastsInDim S128x20x4096x3 (![0, 1, 2, 3] : Fin 4 → Fin S128x20x4096x3.rank)
  reducesTo_S128x20x4096x3_S128x20x4096_d3 : S128x20x4096x3.ReducesTo [3] S128x20x4096
  bcast_S_S128x20x4096 : S_.BroadcastsInDim S128x20x4096 (![] : Fin 0 → Fin S128x20x4096.rank)
  natLt_1_32 : 1 < 32
  reducesTo_S128x20x4096_S128x20_d2 : S128x20x4096.ReducesTo [2] S128x20
  bcast_S_S128x20x3 : S_.BroadcastsInDim S128x20x3 (![] : Fin 0 → Fin S128x20x3.rank)
  slices_S128x4096x6_S128x4096x3_0_0_3 : S128x4096x6.Slices ![0, 0, 3] S128x4096x3
  bcast_S_S128x4096x3 : S_.BroadcastsInDim S128x4096x3 (![] : Fin 0 → Fin S128x4096x3.rank)
  bcast_S_S6x128 : S_.BroadcastsInDim S6x128 (![] : Fin 0 → Fin S6x128.rank)
  bcast_S_S128x20 : S_.BroadcastsInDim S128x20 (![] : Fin 0 → Fin S128x20.rank)
  dot_S128x1024x6_S6x128_S128x1024x128_2_0_01_1_n_n_wf : DotDims.WF S128x1024x6 S6x128 S128x1024x128 [2] [0] [0, 1] [1] [] []
  dot_S128x128_S128x256_S128x256_1_0_0_1_n_n_wf : DotDims.WF S128x128 S128x256 S128x256 [1] [0] [0] [1] [] []
  dot_S128x268_S268x512_S128x512_1_0_0_1_n_n_wf : DotDims.WF S128x268 S268x512 S128x512 [1] [0] [0] [1] [] []
  dot_S128x512_S512x60_S128x60_1_0_0_1_n_n_wf : DotDims.WF S128x512 S512x60 S128x60 [1] [0] [0] [1] [] []

variable [Facts]

def dot_S128x1024x6_S6x128_S128x1024x128_2_0_01_1_n_n : DotDims S128x1024x6 S6x128 S128x1024x128 where
  lhsContracting := [2]
  rhsContracting := [0]
  lhsNonContracting := [0, 1]
  rhsNonContracting := [1]
  lhsBatch := []
  rhsBatch := []
  wf := dot_S128x1024x6_S6x128_S128x1024x128_2_0_01_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x268_S268x512_S128x512_1_0_0_1_n_n : DotDims S128x268 S268x512 S128x512 where
  lhsContracting := [1]
  rhsContracting := [0]
  lhsNonContracting := [0]
  rhsNonContracting := [1]
  lhsBatch := []
  rhsBatch := []
  wf := dot_S128x268_S268x512_S128x512_1_0_0_1_n_n_wf
def dot_S128x512_S512x60_S128x60_1_0_0_1_n_n : DotDims S128x512 S512x60 S128x60 where
  lhsContracting := [1]
  rhsContracting := [0]
  lhsNonContracting := [0]
  rhsNonContracting := [1]
  lhsBatch := []
  rhsBatch := []
  wf := dot_S128x512_S512x60_S128x60_1_0_0_1_n_n_wf
def fn_part2 {F : FTy → Type} [FloatOps F] (main_arg14 : FVec F S6x128 .f32) (main_v26 : FVec F S128x4096x6 .f32) (main_v38 : IVec S128x20 32) (main_v39 : FVec F S128x20x3 .f32) (main_v40 : FVec F S128x20x3 .f32) : IVec S128x20x3 1 × IVec S128x4096x3 1 × IVec S6x128 1 × IVec S128x20 1 :=
  let main_v41 : IVec S128x20x3 1 := cmpf .olt main_v39 main_v40
  let main_v42 : FVec F S128x4096x3 .f32 := (extractStridedSlice S128x4096x3 ![0, 0, 3] · slices_S128x4096x6_S128x4096x3_0_0_3) main_v26
  let main_v43 : FVec F S128x4096x3 .f32 := Host.absf main_v42
  let main_cst_5 : FVec F S_ .f32 := constant S_ .f32 0x7F800000#32
  let main_v44 : FVec F S128x4096x3 .f32 := broadcastInDim S128x4096x3 ![] bcast_S_S128x4096x3 main_cst_5
  let main_v45 : IVec S128x4096x3 1 := cmpf .olt main_v43 main_v44
  let main_v46 : FVec F S6x128 .f32 := Host.absf main_arg14
  let main_cst_6 : FVec F S_ .f32 := constant S_ .f32 0x7F800000#32
  let main_v47 : FVec F S6x128 .f32 := broadcastInDim S6x128 ![] bcast_S_S6x128 main_cst_6
  let main_v48 : IVec S6x128 1 := cmpf .olt main_v46 main_v47
  let main_c_7 : IVec S_ 32 := constantI S_ 32 300#32
  let main_v49 : IVec S128x20 32 := broadcastInDim S128x20 ![] bcast_S_S128x20 main_c_7
  let main_v50 : IVec S128x20 1 := cmpi .sle main_v38 main_v49
  (main_v41, main_v45, main_v48, main_v50)

def fn_part1 {F : FTy → Type} [FloatOps F] (main_arg2 : FVec F S8x16x4096x6 .f32) (main_arg10 : FVec F S512x60 .f32) (main_arg11 : FVec F S60 .f32) (main_arg14 : FVec F S6x128 .f32) (main_v20 : FVec F S128x512 .f32) : IVec S128x20x3 1 × IVec S128x4096x3 1 × IVec S6x128 1 × IVec S128x20 1 :=
  let main_v21 : FVec F S128x60 .f32 := (fun l r => Host.dotGeneral dot_S128x512_S512x60_S128x60_1_0_0_1_n_n none l r) main_v20 main_arg10
  let main_v22 : FVec F S1x60 .f32 := broadcastInDim S1x60 ![1] bcast_S60_S1x60_1 main_arg11
  let main_v23 : FVec F S128x60 .f32 := broadcastInDim S128x60 ![0, 1] bcast_S1x60_S128x60_0_1 main_v22
  let main_v24 : FVec F S128x60 .f32 := addf main_v21 main_v23
  let main_v25 : FVec F S128x20x3 .f32 := shapeCast S128x20x3 main_v24 shapeCasts_S128x60_S128x20x3
  let main_v26 : FVec F S128x4096x6 .f32 := shapeCast S128x4096x6 main_arg2 shapeCasts_S8x16x4096x6_S128x4096x6
  let main_v27 : FVec F S128x20x1x3 .f32 := broadcastInDim S128x20x1x3 ![0, 1, 3] bcast_S128x20x3_S128x20x1x3_0_1_3 main_v25
  let main_v28 : FVec F S128x4096x3 .f32 := (extractStridedSlice S128x4096x3 ![0, 0, 0] · slices_S128x4096x6_S128x4096x3_0_0_0) main_v26
  let main_v29 : FVec F S128x1x4096x3 .f32 := broadcastInDim S128x1x4096x3 ![0, 2, 3] bcast_S128x4096x3_S128x1x4096x3_0_2_3 main_v28
  let main_v30 : FVec F S128x20x4096x3 .f32 := broadcastInDim S128x20x4096x3 ![0, 1, 2, 3] bcast_S128x20x1x3_S128x20x4096x3_0_1_2_3 main_v27
  let main_v31 : FVec F S128x20x4096x3 .f32 := broadcastInDim S128x20x4096x3 ![0, 1, 2, 3] bcast_S128x1x4096x3_S128x20x4096x3_0_1_2_3 main_v29
  let main_v32 : FVec F S128x20x4096x3 .f32 := subf main_v30 main_v31
  let main_v33 : FVec F S128x20x4096x3 .f32 := mulf main_v32 main_v32
  let main_cst_2 : FVec F S_ .f32 := constant S_ .f32 0x00000000#32
  let main_v34 : FVec F S128x20x4096 .f32 := (fun x v => Host.reduceAdd x v reducesTo_S128x20x4096x3_S128x20x4096_d3 h_S_) main_v33 main_cst_2
  let main_cst_3 : FVec F S_ .f32 := constant S_ .f32 0x3A23D70A#32
  let main_v35 : FVec F S128x20x4096 .f32 := broadcastInDim S128x20x4096 ![] bcast_S_S128x20x4096 main_cst_3
  let main_v36 : IVec S128x20x4096 1 := cmpf .olt main_v34 main_v35
  let main_v37 : IVec S128x20x4096 32 := (extui 32 · natLt_1_32) main_v36
  let main_c : IVec S_ 32 := constantI S_ 32 0#32
  let main_v38 : IVec S128x20 32 := (fun x v => Host.reduce IntOp.addi x v reducesTo_S128x20x4096_S128x20_d2 h_S_) main_v37 main_c
  let main_v39 : FVec F S128x20x3 .f32 := Host.absf main_v25
  let main_cst_4 : FVec F S_ .f32 := constant S_ .f32 0x7F800000#32
  let main_v40 : FVec F S128x20x3 .f32 := broadcastInDim S128x20x3 ![] bcast_S_S128x20x3 main_cst_4
  fn_part2 (F := F) main_arg14 main_v26 main_v38 main_v39 main_v40

def fn {F : FTy → Type} [FloatOps F] (main_arg0 : FVec F S8x16x12 .f32) (main_arg1 : FVec F S8x16x1024x6 .f32) (main_arg2 : FVec F S8x16x4096x6 .f32) (main_arg3 : FVec F S1x21x3 .f32) (main_arg4 : FVec F S6x128 .f32) (main_arg5 : FVec F S128 .f32) (main_arg6 : FVec F S128x256 .f32) (main_arg7 : FVec F S256 .f32) (main_arg8 : FVec F S268x512 .f32) (main_arg9 : FVec F S512 .f32) (main_arg10 : FVec F S512x60 .f32) (main_arg11 : FVec F S60 .f32) (main_arg12 : FVec F S3x128 .f32) (main_arg13 : FVec F S128 .f32) (main_arg14 : FVec F S6x128 .f32) (main_arg15 : FVec F S128 .f32) (main_arg16 : FVec F S256x256 .f32) (main_arg17 : FVec F S256 .f32) (main_arg18 : FVec F S256x3 .f32) (main_arg19 : FVec F S3 .f32) : IVec S128x20x3 1 × IVec S128x4096x3 1 × IVec S6x128 1 × IVec S128x20 1 :=
  let main_v0 : FVec F S128x1024x6 .f32 := shapeCast S128x1024x6 main_arg1 shapeCasts_S8x16x1024x6_S128x1024x6
  let main_v1 : FVec F S128x1024x128 .f32 := (fun l r => Host.dotGeneral dot_S128x1024x6_S6x128_S128x1024x128_2_0_01_1_n_n none l r) main_v0 main_arg4
  let main_v2 : FVec F S1x1x128 .f32 := broadcastInDim S1x1x128 ![2] bcast_S128_S1x1x128_2 main_arg5
  let main_v3 : FVec F S128x1024x128 .f32 := broadcastInDim S128x1024x128 ![0, 1, 2] bcast_S1x1x128_S128x1024x128_0_1_2 main_v2
  let main_v4 : FVec F S128x1024x128 .f32 := addf main_v1 main_v3
  let main_cst : FVec F S_ .f32 := constant S_ .f32 0x00000000#32
  let main_v5 : FVec F S128x1024x128 .f32 := broadcastInDim S128x1024x128 ![] bcast_S_S128x1024x128 main_cst
  let main_v6 : FVec F S128x1024x128 .f32 := maximumf main_v4 main_v5
  let main_cst_0 : FVec F S_ .f32 := constant S_ .f32 0xFF800000#32
  let main_v7 : FVec F S128x128 .f32 := (fun x v => Host.reduce FloatOps.maximumf x v reducesTo_S128x1024x128_S128x128_d1 h_S_) main_v6 main_cst_0
  let main_v8 : FVec F S128x256 .f32 := (fun l r => Host.dotGeneral dot_S128x128_S128x256_S128x256_1_0_0_1_n_n none l r) main_v7 main_arg6
  let main_v9 : FVec F S1x256 .f32 := broadcastInDim S1x256 ![1] bcast_S256_S1x256_1 main_arg7
  let main_v10 : FVec F S128x256 .f32 := broadcastInDim S128x256 ![0, 1] bcast_S1x256_S128x256_0_1 main_v9
  let main_v11 : FVec F S128x256 .f32 := addf main_v8 main_v10
  let main_v12 : FVec F S8x16x256 .f32 := shapeCast S8x16x256 main_v11 shapeCasts_S128x256_S8x16x256
  let main_v13 : FVec F S8x16x268 .f32 := (fun a b => concatenate S8x16x268 2 [⟨S8x16x12, a⟩, ⟨S8x16x256, b⟩] concatenates_S8x16x12_S8x16x256_S8x16x268_d2) main_arg0 main_v12
  let main_v14 : FVec F S128x268 .f32 := shapeCast S128x268 main_v13 shapeCasts_S8x16x268_S128x268
  let main_v15 : FVec F S128x512 .f32 := (fun l r => Host.dotGeneral dot_S128x268_S268x512_S128x512_1_0_0_1_n_n none l r) main_v14 main_arg8
  let main_v16 : FVec F S1x512 .f32 := broadcastInDim S1x512 ![1] bcast_S512_S1x512_1 main_arg9
  let main_v17 : FVec F S128x512 .f32 := broadcastInDim S128x512 ![0, 1] bcast_S1x512_S128x512_0_1 main_v16
  let main_v18 : FVec F S128x512 .f32 := addf main_v15 main_v17
  let main_cst_1 : FVec F S_ .f32 := constant S_ .f32 0x00000000#32
  let main_v19 : FVec F S128x512 .f32 := broadcastInDim S128x512 ![] bcast_S_S128x512 main_cst_1
  let main_v20 : FVec F S128x512 .f32 := maximumf main_v18 main_v19
  fn_part1 (F := F) main_arg2 main_arg10 main_arg11 main_arg14 main_v20
-- ==== Kernel.lean ====
abbrev S8x16x12 : Shape := ⟨3, ![8, 16, 12]⟩
abbrev S8x16x1024x6 : Shape := ⟨4, ![8, 16, 1024, 6]⟩
abbrev S8x16x4096x6 : Shape := ⟨4, ![8, 16, 4096, 6]⟩
abbrev S1x21x3 : Shape := ⟨3, ![1, 21, 3]⟩
abbrev S6x128 : Shape := ⟨2, ![6, 128]⟩
abbrev S128 : Shape := ⟨1, ![128]⟩
abbrev S128x256 : Shape := ⟨2, ![128, 256]⟩
abbrev S256 : Shape := ⟨1, ![256]⟩
abbrev S268x512 : Shape := ⟨2, ![268, 512]⟩
abbrev S512 : Shape := ⟨1, ![512]⟩
abbrev S512x60 : Shape := ⟨2, ![512, 60]⟩
abbrev S60 : Shape := ⟨1, ![60]⟩
abbrev S3x128 : Shape := ⟨2, ![3, 128]⟩
abbrev S256x256 : Shape := ⟨2, ![256, 256]⟩
abbrev S256x3 : Shape := ⟨2, ![256, 3]⟩
abbrev S3 : Shape := ⟨1, ![3]⟩
abbrev S128x1024x6 : Shape := ⟨3, ![128, 1024, 6]⟩
abbrev S1x128 : Shape := ⟨2, ![1, 128]⟩
abbrev S128x1x128 : Shape := ⟨3, ![128, 1, 128]⟩
abbrev S1x1024x6 : Shape := ⟨3, ![1, 1024, 6]⟩
abbrev S1x1x128 : Shape := ⟨3, ![1, 1, 128]⟩
abbrev S1024x6 : Shape := ⟨2, ![1024, 6]⟩
abbrev S1024x128 : Shape := ⟨2, ![1024, 128]⟩
abbrev S128x128 : Shape := ⟨2, ![128, 128]⟩
abbrev S1x20x3 : Shape := ⟨3, ![1, 20, 3]⟩
abbrev S20x3 : Shape := ⟨2, ![20, 3]⟩
abbrev S1x1x3 : Shape := ⟨3, ![1, 1, 3]⟩
abbrev S1x3 : Shape := ⟨2, ![1, 3]⟩
abbrev S128x12 : Shape := ⟨2, ![128, 12]⟩
abbrev S1x256 : Shape := ⟨2, ![1, 256]⟩
abbrev S1x512 : Shape := ⟨2, ![1, 512]⟩
abbrev S1x60 : Shape := ⟨2, ![1, 60]⟩
abbrev S128x60 : Shape := ⟨2, ![128, 60]⟩
abbrev S128x180 : Shape := ⟨2, ![128, 180]⟩
abbrev S128x268 : Shape := ⟨2, ![128, 268]⟩
abbrev S128x512 : Shape := ⟨2, ![128, 512]⟩
abbrev S1 : Shape := ⟨1, ![1]⟩
abbrev S1x1x1 : Shape := ⟨3, ![1, 1, 1]⟩
abbrev S1x1 : Shape := ⟨2, ![1, 1]⟩
abbrev S128x3 : Shape := ⟨2, ![128, 3]⟩
abbrev S128x1 : Shape := ⟨2, ![128, 1]⟩
abbrev S128x9 : Shape := ⟨2, ![128, 9]⟩
abbrev S128x20x3x3 : Shape := ⟨4, ![128, 20, 3, 3]⟩
abbrev S128x60x3 : Shape := ⟨3, ![128, 60, 3]⟩
abbrev S128x20x3 : Shape := ⟨3, ![128, 20, 3]⟩
abbrev S128x3x20 : Shape := ⟨3, ![128, 3, 20]⟩
abbrev S128x4096x6 : Shape := ⟨3, ![128, 4096, 6]⟩
abbrev S128x6x4096 : Shape := ⟨3, ![128, 6, 4096]⟩
abbrev S128x6 : Shape := ⟨2, ![128, 6]⟩
abbrev S256x1 : Shape := ⟨2, ![256, 1]⟩
abbrev S3x256 : Shape := ⟨2, ![3, 256]⟩
abbrev S3x1 : Shape := ⟨2, ![3, 1]⟩
abbrev S1x6x4096 : Shape := ⟨3, ![1, 6, 4096]⟩
abbrev S1x60x3 : Shape := ⟨3, ![1, 60, 3]⟩
abbrev S1x3x20 : Shape := ⟨3, ![1, 3, 20]⟩
abbrev S6x4096 : Shape := ⟨2, ![6, 4096]⟩
abbrev S3x20 : Shape := ⟨2, ![3, 20]⟩
abbrev S3x4096 : Shape := ⟨2, ![3, 4096]⟩
abbrev S1x3x3 : Shape := ⟨3, ![1, 3, 3]⟩
abbrev S3x3 : Shape := ⟨2, ![3, 3]⟩
abbrev S128x4096 : Shape := ⟨2, ![128, 4096]⟩
abbrev S1x4096 : Shape := ⟨2, ![1, 4096]⟩
abbrev S1x1x4096 : Shape := ⟨3, ![1, 1, 4096]⟩
abbrev S128x20 : Shape := ⟨2, ![128, 20]⟩
abbrev S256x20 : Shape := ⟨2, ![256, 20]⟩
abbrev S8x16x20x3 : Shape := ⟨4, ![8, 16, 20, 3]⟩

abbrev nBuf : Space → Nat
  | .hbm => 56
  | .vmem => 35
  | .smem => 0
  | _ => 0

abbrev bufTy : (tb : Table) → Fin (tcTables nBuf tb) → BufTy
  | .hbm, ⟨0, _⟩ => ⟨S8x16x12, .f32⟩
  | .hbm, ⟨1, _⟩ => ⟨S8x16x1024x6, .f32⟩
  | .hbm, ⟨2, _⟩ => ⟨S8x16x4096x6, .f32⟩
  | .hbm, ⟨3, _⟩ => ⟨S1x21x3, .f32⟩
  | .hbm, ⟨4, _⟩ => ⟨S6x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S268x512, .f32⟩
  | .hbm, ⟨9, _⟩ => ⟨S512, .f32⟩
  | .hbm, ⟨10, _⟩ => ⟨S512x60, .f32⟩
  | .hbm, ⟨11, _⟩ => ⟨S60, .f32⟩
  | .hbm, ⟨12, _⟩ => ⟨S3x128, .f32⟩
  | .hbm, ⟨13, _⟩ => ⟨S128, .f32⟩
  | .hbm, ⟨14, _⟩ => ⟨S6x128, .f32⟩
  | .hbm, ⟨15, _⟩ => ⟨S128, .f32⟩
  | .hbm, ⟨16, _⟩ => ⟨S256x256, .f32⟩
  | .hbm, ⟨17, _⟩ => ⟨S256, .f32⟩
  | .hbm, ⟨18, _⟩ => ⟨S256x3, .f32⟩
  | .hbm, ⟨19, _⟩ => ⟨S3, .f32⟩
  | .hbm, ⟨20, _⟩ => ⟨S128x1024x6, .f32⟩
  | .hbm, ⟨21, _⟩ => ⟨S1x128, .f32⟩
  | .hbm, ⟨22, _⟩ => ⟨S128x1x128, .f32⟩
  | .hbm, ⟨23, _⟩ => ⟨S128x128, .f32⟩
  | .hbm, ⟨24, _⟩ => ⟨S1x20x3, .f32⟩
  | .hbm, ⟨25, _⟩ => ⟨S20x3, .f32⟩
  | .hbm, ⟨26, _⟩ => ⟨S1x1x3, .f32⟩
  | .hbm, ⟨27, _⟩ => ⟨S1x3, .f32⟩
  | .hbm, ⟨28, _⟩ => ⟨S20x3, .f32⟩
  | .hbm, ⟨29, _⟩ => ⟨S20x3, .f32⟩
  | .hbm, ⟨30, _⟩ => ⟨S128x12, .f32⟩
  | .hbm, ⟨31, _⟩ => ⟨S1x256, .f32⟩
  | .hbm, ⟨32, _⟩ => ⟨S1x512, .f32⟩
  | .hbm, ⟨33, _⟩ => ⟨S1x60, .f32⟩
  | .hbm, ⟨34, _⟩ => ⟨S128x60, .f32⟩
  | .hbm, ⟨35, _⟩ => ⟨S128x180, .f32⟩
  | .hbm, ⟨36, _⟩ => ⟨S128x20x3x3, .f32⟩
  | .hbm, ⟨37, _⟩ => ⟨S128x60x3, .f32⟩
  | .hbm, ⟨38, _⟩ => ⟨S128x20x3x3, .f32⟩
  | .hbm, ⟨39, _⟩ => ⟨S128x60x3, .f32⟩
  | .hbm, ⟨40, _⟩ => ⟨S128x20x3, .f32⟩
  | .hbm, ⟨41, _⟩ => ⟨S128x3x20, .f32⟩
  | .hbm, ⟨42, _⟩ => ⟨S128x4096x6, .f32⟩
  | .hbm, ⟨43, _⟩ => ⟨S128x6x4096, .f32⟩
  | .hbm, ⟨44, _⟩ => ⟨S128x6, .f32⟩
  | .hbm, ⟨45, _⟩ => ⟨S128x1, .f32⟩
  | .hbm, ⟨46, _⟩ => ⟨S128x3, .f32⟩
  | .hbm, ⟨47, _⟩ => ⟨S128x1, .f32⟩
  | .hbm, ⟨48, _⟩ => ⟨S256x256, .f32⟩
  | .hbm, ⟨49, _⟩ => ⟨S256x1, .f32⟩
  | .hbm, ⟨50, _⟩ => ⟨S3x256, .f32⟩
  | .hbm, ⟨51, _⟩ => ⟨S3x1, .f32⟩
  | .hbm, ⟨52, _⟩ => ⟨S128x3x20, .f32⟩
  | .hbm, ⟨53, _⟩ => ⟨S8x16x20x3, .f32⟩
  | .hbm, ⟨54, _⟩ => ⟨S128x20x3, .f32⟩
  | .hbm, ⟨55, _⟩ => ⟨S8x16x20x3, .f32⟩
  | .local _ .vmem, ⟨0, _⟩ => ⟨S1x1024x6, .f32⟩
  | .local _ .vmem, ⟨1, _⟩ => ⟨S1x1024x6, .f32⟩
  | .local _ .vmem, ⟨2, _⟩ => ⟨S6x128, .f32⟩
  | .local _ .vmem, ⟨3, _⟩ => ⟨S1x128, .f32⟩
  | .local _ .vmem, ⟨4, _⟩ => ⟨S1x1x128, .f32⟩
  | .local _ .vmem, ⟨5, _⟩ => ⟨S1x1x128, .f32⟩
  | .local _ .vmem, ⟨6, _⟩ => ⟨S128x128, .f32⟩
  | .local _ .vmem, ⟨7, _⟩ => ⟨S128x12, .f32⟩
  | .local _ .vmem, ⟨8, _⟩ => ⟨S128x256, .f32⟩
  | .local _ .vmem, ⟨9, _⟩ => ⟨S1x256, .f32⟩
  | .local _ .vmem, ⟨10, _⟩ => ⟨S268x512, .f32⟩
  | .local _ .vmem, ⟨11, _⟩ => ⟨S1x512, .f32⟩
  | .local _ .vmem, ⟨12, _⟩ => ⟨S512x60, .f32⟩
  | .local _ .vmem, ⟨13, _⟩ => ⟨S1x60, .f32⟩
  | .local _ .vmem, ⟨14, _⟩ => ⟨S20x3, .f32⟩
  | .local _ .vmem, ⟨15, _⟩ => ⟨S128x60, .f32⟩
  | .local _ .vmem, ⟨16, _⟩ => ⟨S128x180, .f32⟩
  | .local _ .vmem, ⟨17, _⟩ => ⟨S1x6x4096, .f32⟩
  | .local _ .vmem, ⟨18, _⟩ => ⟨S1x6x4096, .f32⟩
  | .local _ .vmem, ⟨19, _⟩ => ⟨S1x60x3, .f32⟩
  | .local _ .vmem, ⟨20, _⟩ => ⟨S1x60x3, .f32⟩
  | .local _ .vmem, ⟨21, _⟩ => ⟨S1x60x3, .f32⟩
  | .local _ .vmem, ⟨22, _⟩ => ⟨S1x60x3, .f32⟩
  | .local _ .vmem, ⟨23, _⟩ => ⟨S1x3x20, .f32⟩
  | .local _ .vmem, ⟨24, _⟩ => ⟨S1x3x20, .f32⟩
  | .local _ .vmem, ⟨25, _⟩ => ⟨S128x6, .f32⟩
  | .local _ .vmem, ⟨26, _⟩ => ⟨S128x1, .f32⟩
  | .local _ .vmem, ⟨27, _⟩ => ⟨S128x3, .f32⟩
  | .local _ .vmem, ⟨28, _⟩ => ⟨S128x1, .f32⟩
  | .local _ .vmem, ⟨29, _⟩ => ⟨S256x256, .f32⟩
  | .local _ .vmem, ⟨30, _⟩ => ⟨S256x1, .f32⟩
  | .local _ .vmem, ⟨31, _⟩ => ⟨S3x256, .f32⟩
  | .local _ .vmem, ⟨32, _⟩ => ⟨S3x1, .f32⟩
  | .local _ .vmem, ⟨33, _⟩ => ⟨S1x3x20, .f32⟩
  | .local _ .vmem, ⟨34, _⟩ => ⟨S1x3x20, .f32⟩
  | _, _ => ⟨S8x16x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg12_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem12_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S268x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x60 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x60 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S20x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x60 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x180 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x6x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x60x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x60x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3x20 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S3x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S3x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x3x20 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== ReferenceIdeal.lean ====
abbrev S8x16x12 : Shape := ⟨3, ![8, 16, 12]⟩
abbrev S8x16x1024x6 : Shape := ⟨4, ![8, 16, 1024, 6]⟩
abbrev S8x16x4096x6 : Shape := ⟨4, ![8, 16, 4096, 6]⟩
abbrev S1x21x3 : Shape := ⟨3, ![1, 21, 3]⟩
abbrev S6x128 : Shape := ⟨2, ![6, 128]⟩
abbrev S128 : Shape := ⟨1, ![128]⟩
abbrev S128x256 : Shape := ⟨2, ![128, 256]⟩
abbrev S256 : Shape := ⟨1, ![256]⟩
abbrev S268x512 : Shape := ⟨2, ![268, 512]⟩
abbrev S512 : Shape := ⟨1, ![512]⟩
abbrev S512x60 : Shape := ⟨2, ![512, 60]⟩
abbrev S60 : Shape := ⟨1, ![60]⟩
abbrev S3x128 : Shape := ⟨2, ![3, 128]⟩
abbrev S256x256 : Shape := ⟨2, ![256, 256]⟩
abbrev S256x3 : Shape := ⟨2, ![256, 3]⟩
abbrev S3 : Shape := ⟨1, ![3]⟩
abbrev S128x1024x6 : Shape := ⟨3, ![128, 1024, 6]⟩
abbrev S128x1024x128 : Shape := ⟨3, ![128, 1024, 128]⟩
abbrev S1x1x128 : Shape := ⟨3, ![1, 1, 128]⟩
abbrev S_ : Shape := ⟨0, ![]⟩
abbrev S128x128 : Shape := ⟨2, ![128, 128]⟩
abbrev S1x256 : Shape := ⟨2, ![1, 256]⟩
abbrev S8x16x256 : Shape := ⟨3, ![8, 16, 256]⟩
abbrev S8x16x268 : Shape := ⟨3, ![8, 16, 268]⟩
abbrev S128x268 : Shape := ⟨2, ![128, 268]⟩
abbrev S128x512 : Shape := ⟨2, ![128, 512]⟩
abbrev S1x512 : Shape := ⟨2, ![1, 512]⟩
abbrev S128x60 : Shape := ⟨2, ![128, 60]⟩
abbrev S1x60 : Shape := ⟨2, ![1, 60]⟩
abbrev S128x20x3 : Shape := ⟨3, ![128, 20, 3]⟩
abbrev S8x16x20x3 : Shape := ⟨4, ![8, 16, 20, 3]⟩
abbrev S128x1x3 : Shape := ⟨3, ![128, 1, 3]⟩
abbrev S128x21x3 : Shape := ⟨3, ![128, 21, 3]⟩
abbrev S1x1x3 : Shape := ⟨3, ![1, 1, 3]⟩
abbrev S128x21 : Shape := ⟨2, ![128, 21]⟩
abbrev S128x21x1 : Shape := ⟨3, ![128, 21, 1]⟩
abbrev S1x21 : Shape := ⟨2, ![1, 21]⟩
abbrev S1x21x1 : Shape := ⟨3, ![1, 21, 1]⟩
abbrev S128x21x1x3 : Shape := ⟨4, ![128, 21, 1, 3]⟩
abbrev S128x21x3x3 : Shape := ⟨4, ![128, 21, 3, 3]⟩
abbrev S3x3 : Shape := ⟨2, ![3, 3]⟩
abbrev S1x1x3x3 : Shape := ⟨4, ![1, 1, 3, 3]⟩
abbrev S128x21x1x1 : Shape := ⟨4, ![128, 21, 1, 1]⟩
abbrev S128x20x3x3 : Shape := ⟨4, ![128, 20, 3, 3]⟩
abbrev S128x20x128 : Shape := ⟨3, ![128, 20, 128]⟩
abbrev S128x128x20 : Shape := ⟨3, ![128, 128, 20]⟩
abbrev S128x4096x6 : Shape := ⟨3, ![128, 4096, 6]⟩
abbrev S128x4096x3 : Shape := ⟨3, ![128, 4096, 3]⟩
abbrev S128x20x1x3 : Shape := ⟨4, ![128, 20, 1, 3]⟩
abbrev S128x1x4096x3 : Shape := ⟨4, ![128, 1, 4096, 3]⟩
abbrev S128x20x4096x3 : Shape := ⟨4, ![128, 20, 4096, 3]⟩
abbrev S128x20x4096 : Shape := ⟨3, ![128, 20, 4096]⟩
abbrev S128x20x300 : Shape := ⟨3, ![128, 20, 300]⟩
abbrev S128x20x300x1 : Shape := ⟨4, ![128, 20, 300, 1]⟩
abbrev S1 : Shape := ⟨1, ![1]⟩
abbrev S1x1x1x1 : Shape := ⟨4, ![1, 1, 1, 1]⟩
abbrev S128x6000 : Shape := ⟨2, ![128, 6000]⟩
abbrev S128x6000x1 : Shape := ⟨3, ![128, 6000, 1]⟩
abbrev S1x1x1 : Shape := ⟨3, ![1, 1, 1]⟩
abbrev S128x6000x6 : Shape := ⟨3, ![128, 6000, 6]⟩
abbrev S128x20x300x6 : Shape := ⟨4, ![128, 20, 300, 6]⟩
abbrev S128x20x1x1 : Shape := ⟨4, ![128, 20, 1, 1]⟩
abbrev S128x20x1x4 : Shape := ⟨4, ![128, 20, 1, 4]⟩
abbrev S128x20x3x1 : Shape := ⟨4, ![128, 20, 3, 1]⟩
abbrev S128x20x3x4 : Shape := ⟨4, ![128, 20, 3, 4]⟩
abbrev S128x20x4x4 : Shape := ⟨4, ![128, 20, 4, 4]⟩
abbrev S128x20x300x3 : Shape := ⟨4, ![128, 20, 300, 3]⟩
abbrev S128x20x300x4 : Shape := ⟨4, ![128, 20, 300, 4]⟩
abbrev S128x20x300x128 : Shape := ⟨4, ![128, 20, 300, 128]⟩
abbrev S1x1x1x128 : Shape := ⟨4, ![1, 1, 1, 128]⟩
abbrev S128x20 : Shape := ⟨2, ![128, 20]⟩
abbrev S128x20x1 : Shape := ⟨3, ![128, 20, 1]⟩
abbrev S128x256x20 : Shape := ⟨3, ![128, 256, 20]⟩
abbrev S8x16x256x20 : Shape := ⟨4, ![8, 16, 256, 20]⟩
abbrev S16x20x8x256 : Shape := ⟨4, ![16, 20, 8, 256]⟩
abbrev S1x1x1x256 : Shape := ⟨4, ![1, 1, 1, 256]⟩
abbrev S16x20x8x3 : Shape := ⟨4, ![16, 20, 8, 3]⟩
abbrev S1x1x1x3 : Shape := ⟨4, ![1, 1, 1, 3]⟩

abbrev nBuf : Space → Nat
  | .hbm => 343
  | .vmem => 0
  | .smem => 0
  | _ => 0

abbrev hbmTy0_0 (i : Nat) : BufTy := match i % 128 with
  | 0 => ⟨S8x16x12, .f32⟩
  | 1 => ⟨S8x16x1024x6, .f32⟩
  | 2 => ⟨S8x16x4096x6, .f32⟩
  | 3 => ⟨S1x21x3, .f32⟩
  | 4 => ⟨S6x128, .f32⟩
  | 5 => ⟨S128, .f32⟩
  | 6 => ⟨S128x256, .f32⟩
  | 7 => ⟨S256, .f32⟩
  | 8 => ⟨S268x512, .f32⟩
  | 9 => ⟨S512, .f32⟩
  | 10 => ⟨S512x60, .f32⟩
  | 11 => ⟨S60, .f32⟩
  | 12 => ⟨S3x128, .f32⟩
  | 13 => ⟨S128, .f32⟩
  | 14 => ⟨S6x128, .f32⟩
  | 15 => ⟨S128, .f32⟩
  | 16 => ⟨S256x256, .f32⟩
  | 17 => ⟨S256, .f32⟩
  | 18 => ⟨S256x3, .f32⟩
  | 19 => ⟨S3, .f32⟩
  | 20 => ⟨S128x1024x6, .f32⟩
  | 21 => ⟨S128x1024x128, .f32⟩
  | 22 => ⟨S1x1x128, .f32⟩
  | 23 => ⟨S128x1024x128, .f32⟩
  | 24 => ⟨S128x1024x128, .f32⟩
  | 25 => ⟨S_, .f32⟩
  | 26 => ⟨S128x1024x128, .f32⟩
  | 27 => ⟨S128x1024x128, .f32⟩
  | 28 => ⟨S_, .f32⟩
  | 29 => ⟨S128x128, .f32⟩
  | 30 => ⟨S128x256, .f32⟩
  | 31 => ⟨S1x256, .f32⟩
  | 32 => ⟨S128x256, .f32⟩
  | 33 => ⟨S128x256, .f32⟩
  | 34 => ⟨S8x16x256, .f32⟩
  | 35 => ⟨S8x16x268, .f32⟩
  | 36 => ⟨S128x268, .f32⟩
  | 37 => ⟨S128x512, .f32⟩
  | 38 => ⟨S1x512, .f32⟩
  | 39 => ⟨S128x512, .f32⟩
  | 40 => ⟨S128x512, .f32⟩
  | 41 => ⟨S_, .f32⟩
  | 42 => ⟨S128x512, .f32⟩
  | 43 => ⟨S128x512, .f32⟩
  | 44 => ⟨S128x60, .f32⟩
  | 45 => ⟨S1x60, .f32⟩
  | 46 => ⟨S128x60, .f32⟩
  | 47 => ⟨S128x60, .f32⟩
  | 48 => ⟨S128x20x3, .f32⟩
  | 49 => ⟨S8x16x20x3, .f32⟩
  | 50 => ⟨S_, .f32⟩
  | 51 => ⟨S128x1x3, .f32⟩
  | 52 => ⟨S128x21x3, .f32⟩
  | 53 => ⟨S128x1x3, .f32⟩
  | 54 => ⟨S128x21x3, .f32⟩
  | 55 => ⟨S128x21x3, .f32⟩
  | 56 => ⟨S1x1x3, .f32⟩
  | 57 => ⟨S1x21x3, .f32⟩
  | 58 => ⟨S1x21x3, .f32⟩
  | 59 => ⟨S128x21x3, .f32⟩
  | 60 => ⟨S_, .f32⟩
  | 61 => ⟨S128x21, .f32⟩
  | 62 => ⟨S128x21x1, .f32⟩
  | 63 => ⟨S128x21x1, .f32⟩
  | 64 => ⟨S1x21x3, .f32⟩
  | 65 => ⟨S_, .f32⟩
  | 66 => ⟨S1x21, .f32⟩
  | 67 => ⟨S1x21x1, .f32⟩
  | 68 => ⟨S1x21x1, .f32⟩
  | 69 => ⟨S_, .f32⟩
  | 70 => ⟨S1x21x1, .f32⟩
  | 71 => ⟨S1x21x1, .f32⟩
  | 72 => ⟨S1x21x3, .f32⟩
  | 73 => ⟨S1x21x3, .f32⟩
  | 74 => ⟨S_, .f32⟩
  | 75 => ⟨S128x21x1, .f32⟩
  | 76 => ⟨S128x21x1, .f32⟩
  | 77 => ⟨S128x21x3, .f32⟩
  | 78 => ⟨S128x21x3, .f32⟩
  | 79 => ⟨S1x21x1, .f32⟩
  | 80 => ⟨S1x21, .f32⟩
  | 81 => ⟨S1x21x1, .f32⟩
  | 82 => ⟨S1x21, .f32⟩
  | 83 => ⟨S1x21x1, .f32⟩
  | 84 => ⟨S1x21, .f32⟩
  | 85 => ⟨S128x21x1, .f32⟩
  | 86 => ⟨S128x21, .f32⟩
  | 87 => ⟨S128x21x1, .f32⟩
  | 88 => ⟨S128x21, .f32⟩
  | 89 => ⟨S128x21x1, .f32⟩
  | 90 => ⟨S128x21, .f32⟩
  | 91 => ⟨S128x21, .f32⟩
  | 92 => ⟨S128x21, .f32⟩
  | 93 => ⟨S128x21, .f32⟩
  | 94 => ⟨S128x21, .f32⟩
  | 95 => ⟨S128x21, .f32⟩
  | 96 => ⟨S128x21, .f32⟩
  | 97 => ⟨S128x21, .f32⟩
  | 98 => ⟨S128x21, .f32⟩
  | 99 => ⟨S128x21, .f32⟩
  | 100 => ⟨S128x21, .f32⟩
  | 101 => ⟨S128x21, .f32⟩
  | 102 => ⟨S128x21, .f32⟩
  | 103 => ⟨S128x21, .f32⟩
  | 104 => ⟨S128x21, .f32⟩
  | 105 => ⟨S128x21, .f32⟩
  | 106 => ⟨S128x21x1, .f32⟩
  | 107 => ⟨S128x21x1, .f32⟩
  | 108 => ⟨S128x21x1, .f32⟩
  | 109 => ⟨S128x21x3, .f32⟩
  | 110 => ⟨S128x21x3, .f32⟩
  | 111 => ⟨S128x21x3, .f32⟩
  | 112 => ⟨S_, .f32⟩
  | 113 => ⟨S128x21, .f32⟩
  | 114 => ⟨S128x21x3, .f32⟩
  | 115 => ⟨S_, .f32⟩
  | 116 => ⟨S128x21, .f32⟩
  | 117 => ⟨S128x21x1, .f32⟩
  | 118 => ⟨S128x21, .f32⟩
  | 119 => ⟨S_, .f32⟩
  | 120 => ⟨S128x21, .f32⟩
  | 121 => ⟨S128x21x1, .f32⟩
  | 122 => ⟨S128x21, .f32⟩
  | 123 => ⟨S128x21, .f32⟩
  | 124 => ⟨S128x21x1, .f32⟩
  | 125 => ⟨S128x21, .f32⟩
  | 126 => ⟨S128x21x1, .f32⟩
  | 127 => ⟨S128x21x1, .f32⟩
  | _ => ⟨S8x16x12, .f32⟩

abbrev hbmTy0_1 (i : Nat) : BufTy := match i % 128 with
  | 0 => ⟨S128x21x1, .f32⟩
  | 1 => ⟨S128x21x3, .f32⟩
  | 2 => ⟨S128x21x1, .f32⟩
  | 3 => ⟨S128x21, .f32⟩
  | 4 => ⟨S128x21x1, .f32⟩
  | 5 => ⟨S128x21, .f32⟩
  | 6 => ⟨S128x21, .f32⟩
  | 7 => ⟨S128x21x1, .f32⟩
  | 8 => ⟨S128x21x1, .f32⟩
  | 9 => ⟨S128x21x1, .f32⟩
  | 10 => ⟨S128x21x3, .f32⟩
  | 11 => ⟨S128x21x1, .f32⟩
  | 12 => ⟨S128x21, .f32⟩
  | 13 => ⟨S128x21, .f32⟩
  | 14 => ⟨S128x21x1, .f32⟩
  | 15 => ⟨S128x21, .f32⟩
  | 16 => ⟨S128x21x1, .f32⟩
  | 17 => ⟨S128x21x1, .f32⟩
  | 18 => ⟨S128x21x1, .f32⟩
  | 19 => ⟨S128x21x3, .f32⟩
  | 20 => ⟨S128x21x1x3, .f32⟩
  | 21 => ⟨S128x21x1x3, .f32⟩
  | 22 => ⟨S128x21x1x3, .f32⟩
  | 23 => ⟨S128x21x3x3, .f32⟩
  | 24 => ⟨S_, .f32⟩
  | 25 => ⟨S128x21, .f32⟩
  | 26 => ⟨S128x21, .f32⟩
  | 27 => ⟨S_, .f32⟩
  | 28 => ⟨S128x21, .f32⟩
  | 29 => ⟨S128x21, .f32⟩
  | 30 => ⟨S128x21, .f32⟩
  | 31 => ⟨S3x3, .i32⟩
  | 32 => ⟨S3x3, .i32⟩
  | 33 => ⟨S_, .i32⟩
  | 34 => ⟨S3x3, .i32⟩
  | 35 => ⟨S3x3, .i32⟩
  | 36 => ⟨S3x3, .i1⟩
  | 37 => ⟨S3x3, .f32⟩
  | 38 => ⟨S1x1x3x3, .f32⟩
  | 39 => ⟨S128x21x3x3, .f32⟩
  | 40 => ⟨S128x21x3x3, .f32⟩
  | 41 => ⟨S128x21x3x3, .f32⟩
  | 42 => ⟨S128x21x1x1, .f32⟩
  | 43 => ⟨S128x21x3x3, .f32⟩
  | 44 => ⟨S128x21x3x3, .f32⟩
  | 45 => ⟨S128x21x3x3, .f32⟩
  | 46 => ⟨S128x21, .f32⟩
  | 47 => ⟨S_, .f32⟩
  | 48 => ⟨S128x21, .f32⟩
  | 49 => ⟨S128x21, .i1⟩
  | 50 => ⟨S1x21, .f32⟩
  | 51 => ⟨S_, .f32⟩
  | 52 => ⟨S1x21, .f32⟩
  | 53 => ⟨S1x21, .i1⟩
  | 54 => ⟨S128x21, .i1⟩
  | 55 => ⟨S128x21, .i1⟩
  | 56 => ⟨S128x21x1x1, .i1⟩
  | 57 => ⟨S128x21x3x3, .i1⟩
  | 58 => ⟨S128x21x3x3, .f32⟩
  | 59 => ⟨S128x21x3x3, .f32⟩
  | 60 => ⟨S128x20x3x3, .f32⟩
  | 61 => ⟨S128x20x3, .f32⟩
  | 62 => ⟨S128x20x128, .f32⟩
  | 63 => ⟨S1x1x128, .f32⟩
  | 64 => ⟨S128x20x128, .f32⟩
  | 65 => ⟨S128x20x128, .f32⟩
  | 66 => ⟨S128x128x20, .f32⟩
  | 67 => ⟨S128x4096x6, .f32⟩
  | 68 => ⟨S128x4096x3, .f32⟩
  | 69 => ⟨S128x20x1x3, .f32⟩
  | 70 => ⟨S128x1x4096x3, .f32⟩
  | 71 => ⟨S128x20x4096x3, .f32⟩
  | 72 => ⟨S128x20x4096x3, .f32⟩
  | 73 => ⟨S128x20x4096x3, .f32⟩
  | 74 => ⟨S128x20x4096x3, .f32⟩
  | 75 => ⟨S_, .f32⟩
  | 76 => ⟨S128x20x4096, .f32⟩
  | 77 => ⟨S_, .f32⟩
  | 78 => ⟨S128x20x4096, .f32⟩
  | 79 => ⟨S128x20x4096, .i1⟩
  | 80 => ⟨S_, .f32⟩
  | 81 => ⟨S_, .f32⟩
  | 82 => ⟨S128x20x4096, .f32⟩
  | 83 => ⟨S128x20x4096, .f32⟩
  | 84 => ⟨S128x20x4096, .i32⟩
  | 85 => ⟨S128x20x4096, .f32⟩
  | 86 => ⟨S128x20x4096, .i32⟩
  | 87 => ⟨S128x20x300, .i32⟩
  | 88 => ⟨S_, .i32⟩
  | 89 => ⟨S128x20x300, .i32⟩
  | 90 => ⟨S128x20x300, .i1⟩
  | 91 => ⟨S_, .i32⟩
  | 92 => ⟨S128x20x300, .i32⟩
  | 93 => ⟨S128x20x300, .i32⟩
  | 94 => ⟨S128x20x300, .i32⟩
  | 95 => ⟨S128x20x300x1, .i32⟩
  | 96 => ⟨S1, .i32⟩
  | 97 => ⟨S_, .i32⟩
  | 98 => ⟨S128x20x300x1, .i32⟩
  | 99 => ⟨S128x20x300x1, .i1⟩
  | 100 => ⟨S1x1x1x1, .i32⟩
  | 101 => ⟨S128x20x300x1, .i32⟩
  | 102 => ⟨S128x20x300x1, .i1⟩
  | 103 => ⟨S128x20x300x1, .i1⟩
  | 104 => ⟨S_, .i1⟩
  | 105 => ⟨S128x20x300, .i1⟩
  | 106 => ⟨S128x20x300, .i1⟩
  | 107 => ⟨S_, .i1⟩
  | 108 => ⟨S128x20x300, .i1⟩
  | 109 => ⟨S128x20x300, .i1⟩
  | 110 => ⟨S_, .i32⟩
  | 111 => ⟨S_, .i32⟩
  | 112 => ⟨S128x20x300, .i32⟩
  | 113 => ⟨S128x20x300, .i32⟩
  | 114 => ⟨S128x6000, .i32⟩
  | 115 => ⟨S_, .i32⟩
  | 116 => ⟨S128x6000, .i32⟩
  | 117 => ⟨S128x6000, .i1⟩
  | 118 => ⟨S_, .i32⟩
  | 119 => ⟨S128x6000, .i32⟩
  | 120 => ⟨S128x6000, .i32⟩
  | 121 => ⟨S128x6000, .i32⟩
  | 122 => ⟨S128x6000x1, .i32⟩
  | 123 => ⟨S_, .i32⟩
  | 124 => ⟨S128x6000x1, .i32⟩
  | 125 => ⟨S128x6000x1, .i1⟩
  | 126 => ⟨S_, .i32⟩
  | 127 => ⟨S128x6000x1, .i32⟩
  | _ => ⟨S8x16x12, .f32⟩

abbrev hbmTy0_2 (i : Nat) : BufTy := match i % 128 with
  | 0 => ⟨S128x6000x1, .i32⟩
  | 1 => ⟨S128x6000x1, .i32⟩
  | 2 => ⟨S1, .i32⟩
  | 3 => ⟨S_, .i32⟩
  | 4 => ⟨S128x6000x1, .i32⟩
  | 5 => ⟨S128x6000x1, .i1⟩
  | 6 => ⟨S1x1x1, .i32⟩
  | 7 => ⟨S128x6000x1, .i32⟩
  | 8 => ⟨S128x6000x1, .i1⟩
  | 9 => ⟨S128x6000x1, .i1⟩
  | 10 => ⟨S_, .i1⟩
  | 11 => ⟨S128x6000, .i1⟩
  | 12 => ⟨S128x6000x6, .f32⟩
  | 13 => ⟨S128x6000x6, .i1⟩
  | 14 => ⟨S_, .f32⟩
  | 15 => ⟨S128x6000x6, .f32⟩
  | 16 => ⟨S128x6000x6, .f32⟩
  | 17 => ⟨S128x20x300x6, .f32⟩
  | 18 => ⟨S128x20x3x3, .f32⟩
  | 19 => ⟨S128x20x3, .f32⟩
  | 20 => ⟨S128x20x3, .f32⟩
  | 21 => ⟨S_, .f32⟩
  | 22 => ⟨S128x20x1x3, .f32⟩
  | 23 => ⟨S_, .f32⟩
  | 24 => ⟨S128x20x1x1, .f32⟩
  | 25 => ⟨S128x20x1x4, .f32⟩
  | 26 => ⟨S128x20x3x1, .f32⟩
  | 27 => ⟨S128x20x3x4, .f32⟩
  | 28 => ⟨S128x20x4x4, .f32⟩
  | 29 => ⟨S128x20x300x3, .f32⟩
  | 30 => ⟨S_, .f32⟩
  | 31 => ⟨S128x20x300x1, .f32⟩
  | 32 => ⟨S128x20x300x4, .f32⟩
  | 33 => ⟨S128x20x300x4, .f32⟩
  | 34 => ⟨S128x20x300x3, .f32⟩
  | 35 => ⟨S128x20x300x1, .f32⟩
  | 36 => ⟨S128x20x300x3, .f32⟩
  | 37 => ⟨S128x20x300x3, .f32⟩
  | 38 => ⟨S128x20x3x3, .f32⟩
  | 39 => ⟨S128x20x300x3, .f32⟩
  | 40 => ⟨S128x20x300x3, .f32⟩
  | 41 => ⟨S128x20x300x6, .f32⟩
  | 42 => ⟨S128x20x300x128, .f32⟩
  | 43 => ⟨S1x1x1x128, .f32⟩
  | 44 => ⟨S128x20x300x128, .f32⟩
  | 45 => ⟨S128x20x300x128, .f32⟩
  | 46 => ⟨S_, .f32⟩
  | 47 => ⟨S128x20x300x128, .f32⟩
  | 48 => ⟨S128x20x300x128, .f32⟩
  | 49 => ⟨S128x20x300x1, .i1⟩
  | 50 => ⟨S_, .f32⟩
  | 51 => ⟨S_, .f32⟩
  | 52 => ⟨S128x20x300x128, .i1⟩
  | 53 => ⟨S128x20x300x128, .f32⟩
  | 54 => ⟨S128x20x300x128, .f32⟩
  | 55 => ⟨S_, .f32⟩
  | 56 => ⟨S128x20x128, .f32⟩
  | 57 => ⟨S_, .i1⟩
  | 58 => ⟨S128x20, .i1⟩
  | 59 => ⟨S128x20x1, .i1⟩
  | 60 => ⟨S_, .f32⟩
  | 61 => ⟨S_, .f32⟩
  | 62 => ⟨S128x20x128, .i1⟩
  | 63 => ⟨S128x20x128, .f32⟩
  | 64 => ⟨S128x20x128, .f32⟩
  | 65 => ⟨S128x128x20, .f32⟩
  | 66 => ⟨S128x256x20, .f32⟩
  | 67 => ⟨S8x16x256x20, .f32⟩
  | 68 => ⟨S16x20x8x256, .f32⟩
  | 69 => ⟨S16x20x8x256, .f32⟩
  | 70 => ⟨S1x1x1x256, .f32⟩
  | 71 => ⟨S16x20x8x256, .f32⟩
  | 72 => ⟨S16x20x8x256, .f32⟩
  | 73 => ⟨S_, .f32⟩
  | 74 => ⟨S16x20x8x256, .f32⟩
  | 75 => ⟨S16x20x8x256, .f32⟩
  | 76 => ⟨S16x20x8x3, .f32⟩
  | 77 => ⟨S1x1x1x3, .f32⟩
  | 78 => ⟨S16x20x8x3, .f32⟩
  | 79 => ⟨S16x20x8x3, .f32⟩
  | 80 => ⟨S8x16x20x3, .f32⟩
  | 81 => ⟨S128x20x3, .f32⟩
  | 82 => ⟨S128x20x3, .f32⟩
  | 83 => ⟨S8x16x20x3, .f32⟩
  | 84 => ⟨S8x16x20x3, .f32⟩
  | 85 => ⟨S8x16x20x3, .f32⟩
  | 86 => ⟨S8x16x20x3, .f32⟩
  | _ => ⟨S8x16x12, .f32⟩

abbrev hbmTy (i : Nat) : BufTy := match i / 128 with
  | 0 => hbmTy0_0 i
  | 1 => hbmTy0_1 i
  | 2 => hbmTy0_2 i
  | _ => ⟨S8x16x12, .f32⟩

abbrev bufTy : (tb : Table) → Fin (tcTables nBuf tb) → BufTy
  | .hbm, ⟨i, _⟩ => hbmTy i
  | _, _ => ⟨S8x16x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_7 : Ref sig .tc := ⟨.hbm, 112, rfl⟩
abbrev main_v84 : Ref sig .tc := ⟨.hbm, 113, rfl⟩
abbrev main_v85 : Ref sig .tc := ⟨.hbm, 114, rfl⟩
abbrev main_cst_8 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_9 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_10 : Ref sig .tc := ⟨.hbm, 152, rfl⟩
abbrev main_v121 : Ref sig .tc := ⟨.hbm, 153, rfl⟩
abbrev main_v122 : Ref sig .tc := ⟨.hbm, 154, rfl⟩
abbrev main_cst_11 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_12 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_13 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_call0_v0 : Ref sig .tc := ⟨.hbm, 185, rfl⟩
abbrev main_call0_v1 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_cst_14 : Ref sig .tc := ⟨.hbm, 203, rfl⟩
abbrev main_v165 : Ref sig .tc := ⟨.hbm, 204, rfl⟩
abbrev main_cst_15 : Ref sig .tc := ⟨.hbm, 205, rfl⟩
abbrev main_v166 : Ref sig .tc := ⟨.hbm, 206, rfl⟩
abbrev main_v167 : Ref sig .tc := ⟨.hbm, 207, rfl⟩
abbrev main_cst_16 : Ref sig .tc := ⟨.hbm, 208, rfl⟩
abbrev main_call1_v0 : Ref sig .tc := ⟨.hbm, 209, rfl⟩
abbrev main_call1_v1 : Ref sig .tc := ⟨.hbm, 210, rfl⟩
abbrev main_v168 : Ref sig .tc := ⟨.hbm, 211, rfl⟩
abbrev main_call2_v0 : Ref sig .tc := ⟨.hbm, 212, rfl⟩
abbrev main_call2_v1_0 : Ref sig .tc := ⟨.hbm, 213, rfl⟩
abbrev main_v169 : Ref sig .tc := ⟨.hbm, 214, rfl⟩
abbrev main_v170 : Ref sig .tc := ⟨.hbm, 215, rfl⟩
abbrev main_call3_c : Ref sig .tc := ⟨.hbm, 216, rfl⟩
abbrev main_call3_v0 : Ref sig .tc := ⟨.hbm, 217, rfl⟩
abbrev main_call3_v1 : Ref sig .tc := ⟨.hbm, 218, rfl⟩
abbrev main_call3_c_0 : Ref sig .tc := ⟨.hbm, 219, rfl⟩
abbrev main_call3_v2 : Ref sig .tc := ⟨.hbm, 220, rfl⟩
abbrev main_call3_v3 : Ref sig .tc := ⟨.hbm, 221, rfl⟩
abbrev main_call3_v4 : Ref sig .tc := ⟨.hbm, 222, rfl⟩
abbrev main_call3_v5 : Ref sig .tc := ⟨.hbm, 223, rfl⟩
abbrev main_call3_c_1 : Ref sig .tc := ⟨.hbm, 224, rfl⟩
abbrev main_call3_c_2 : Ref sig .tc := ⟨.hbm, 225, rfl⟩
abbrev main_call3_v6 : Ref sig .tc := ⟨.hbm, 226, rfl⟩
abbrev main_call3_v7 : Ref sig .tc := ⟨.hbm, 227, rfl⟩
abbrev main_call3_v8 : Ref sig .tc := ⟨.hbm, 228, rfl⟩
abbrev main_call3_v9 : Ref sig .tc := ⟨.hbm, 229, rfl⟩
abbrev main_call3_v10 : Ref sig .tc := ⟨.hbm, 230, rfl⟩
abbrev main_call3_v11 : Ref sig .tc := ⟨.hbm, 231, rfl⟩
abbrev main_call3_c_3 : Ref sig .tc := ⟨.hbm, 232, rfl⟩
abbrev main_call3_v12 : Ref sig .tc := ⟨.hbm, 233, rfl⟩
abbrev main_call3_v13 : Ref sig .tc := ⟨.hbm, 234, rfl⟩
abbrev main_call3_c_4 : Ref sig .tc := ⟨.hbm, 235, rfl⟩
abbrev main_call3_v14 : Ref sig .tc := ⟨.hbm, 236, rfl⟩
abbrev main_v171 : Ref sig .tc := ⟨.hbm, 237, rfl⟩
abbrev main_c_17 : Ref sig .tc := ⟨.hbm, 238, rfl⟩
abbrev main_call4_v0 : Ref sig .tc := ⟨.hbm, 239, rfl⟩
abbrev main_call4_v1 : Ref sig .tc := ⟨.hbm, 240, rfl⟩
abbrev main_v172 : Ref sig .tc := ⟨.hbm, 241, rfl⟩
abbrev main_v173 : Ref sig .tc := ⟨.hbm, 242, rfl⟩
abbrev main_c_18 : Ref sig .tc := ⟨.hbm, 243, rfl⟩
abbrev main_v174 : Ref sig .tc := ⟨.hbm, 244, rfl⟩
abbrev main_v175 : Ref sig .tc := ⟨.hbm, 245, rfl⟩
abbrev main_c_19 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_call6_c : Ref sig .tc := ⟨.hbm, 251, rfl⟩
abbrev main_call6_v0 : Ref sig .tc := ⟨.hbm, 252, rfl⟩
abbrev main_call6_v1 : Ref sig .tc := ⟨.hbm, 253, rfl⟩
abbrev main_call6_c_0 : Ref sig .tc := ⟨.hbm, 254, rfl⟩
abbrev main_call6_v2 : Ref sig .tc := ⟨.hbm, 255, rfl⟩
abbrev main_call6_v3 : Ref sig .tc := ⟨.hbm, 256, rfl⟩
abbrev main_call6_v4 : Ref sig .tc := ⟨.hbm, 257, rfl⟩
abbrev main_call6_c_1 : Ref sig .tc := ⟨.hbm, 258, rfl⟩
abbrev main_call6_c_2 : Ref sig .tc := ⟨.hbm, 259, rfl⟩
abbrev main_call6_v5 : Ref sig .tc := ⟨.hbm, 260, rfl⟩
abbrev main_call6_v6 : Ref sig .tc := ⟨.hbm, 261, rfl⟩
abbrev main_call6_v7 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_c_3 : Ref sig .tc := ⟨.hbm, 266, rfl⟩
abbrev main_call6_v11 : Ref sig .tc := ⟨.hbm, 267, rfl⟩
abbrev main_call6_v12 : Ref sig .tc := ⟨.hbm, 268, rfl⟩
abbrev main_call6_v13 : Ref sig .tc := ⟨.hbm, 269, rfl⟩
abbrev main_call6_cst : Ref sig .tc := ⟨.hbm, 270, rfl⟩
abbrev main_call6_v14 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_20 : Ref sig .tc := ⟨.hbm, 277, rfl⟩
abbrev main_v185 : Ref sig .tc := ⟨.hbm, 278, rfl⟩
abbrev main_cst_21 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_22 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_cst_23 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_cst_24 : Ref sig .tc := ⟨.hbm, 306, rfl⟩
abbrev main_call7_v0 : Ref sig .tc := ⟨.hbm, 307, rfl⟩
abbrev main_call7_v1 : Ref sig .tc := ⟨.hbm, 308, rfl⟩
abbrev main_call7_v2 : Ref sig .tc := ⟨.hbm, 309, rfl⟩
abbrev main_v210 : Ref sig .tc := ⟨.hbm, 310, rfl⟩
abbrev main_cst_25 : Ref sig .tc := ⟨.hbm, 311, rfl⟩
abbrev main_v211 : Ref sig .tc := ⟨.hbm, 312, rfl⟩
abbrev main_c_26 : Ref sig .tc := ⟨.hbm, 313, rfl⟩
abbrev main_v212 : Ref sig .tc := ⟨.hbm, 314, rfl⟩
abbrev main_v213 : Ref sig .tc := ⟨.hbm, 315, rfl⟩
abbrev main_cst_27 : Ref sig .tc := ⟨.hbm, 316, rfl⟩
abbrev main_call8_v0 : Ref sig .tc := ⟨.hbm, 317, rfl⟩
abbrev main_call8_v1 : Ref sig .tc := ⟨.hbm, 318, rfl⟩
abbrev main_call8_v2 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_cst_28 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩

abbrev nD : Nat := 1
abbrev τ : Topo := Topo.v7x

variable {F : FTy → Type} [FloatOps F]
-- ==== Proof.Launch.lean ====
/- The kernel's run on the extended reals: where it ends, and what its buffers then hold. -/
module

public import proofs.«01_k».proof.Proof.Gen.KernelIdeal.Frame

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run of the kernel ends, and every buffer then holds what the last host stretch leaves (`W7`). -/
theorem ends : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- The two results of the kernel after its run, and its arguments, which it leaves as they were. -/
theorem results : θ_run defs (onTc (τ := τ) (main (F := F))) ⟨m, fun _ => 0, ρ⟩ (fun r => ∀ c : Dev nD,
      r.2.mem ((c.tc : Thread nD τ).loc main_v32) = W7 m ρ c (Proc.devRef .tc main_v32)
      ∧ r.2.mem ((c.tc : Thread nD τ).loc main_v34) = W7 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨h c _ (mem_uc main_v32 (by decide)), h c _ (mem_uc main_v34 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c)⟩) (ends m ρ)

end Cert.KernelIdeal.Launch

end
-- ==== Proof.Pool.lean ====
/- The first kernel of three: every encoder feature's maximum over the 1024 cropped object points. -/
module

public import proofs.«01_k».proof.Proof.Gen.KernelIdeal.Frame
public import proofs.«01_k».proof.Proof.Gen.ReferenceIdeal.Read
public import Idealize.ShloMosaic.Lib.Pipeline.ValueKit

@[expose] public section

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)
open Cert.ReferenceIdeal.Read

variable (V : (c : Dev nD) → (b : Ref sig .tc) → Buf (Elt Ideal) ((c.tc : Thread nD τ).loc b))

/-- The encoder's pooled features: for every batch row and channel, the largest of the 1024 points' features. -/
def poolOf (X : FVec Ideal S128x1024x6 .f32) (We : FVec Ideal S6x128 .f32) (Be : FVec Ideal S1x128 .f32) :
    FVec Ideal S128x1x128 .f32 := fun j =>
  Finset.univ.fold max (Ideal.ofBits .f32 0xFF800000#32)
    fun p : Fin 1024 => max (∑ d : Fin 6, X (ix3 (j 0) p d) * We (ix2 d (j 2)) + Be (ix2 0 (j 2))) 0

/-- Which block each window of the first kernel holds at each grid point. -/
theorem idx : ∀ t : Fin cfg0.N, win0_0.index t = ![t.val, 0, 0] ∧ win0_1.index t = ![0, 0]
    ∧ win0_2.index t = ![0, 0] ∧ win0_3.index t = ![t.val, 0, 0] :=
  (by decide +kernel : ∀ t : Fin grid0.N, _)

/-- What the kernel stores at a grid point is the pooled feature of the point's batch row. -/
theorem point (c : Dev nD) (t : Fin cfg0.N) (y) :
    k0_pay1 (iblk0 V c 0 t) (iblk0 V c 1 t) (iblk0 V c 2 t) y
    = poolOf (V c main_v0) (V c main_arg4) (V c main_v1) (((cfg0.win 3).blk t).view.emb y) := by
  pointwise [k0_pay1, poolOf]
  blk_point [iblk0, idx t]

/-- The first kernel's result array after its run. -/
theorem final (c : Dev nD) : (dat0 V c).arrAt 3 cfg0.N = poolOf (V c main_v0) (V c main_arg4) (V c main_v1) := by
  refine (dat0 V c).arrAt_eq_of_covers 3 _ (by decide +kernel) fun t _ y => ?_
  blk_simp
  rw [after0_3]; frame_out
  exact point V c t y

end Cert.KernelIdeal.Pool

end
-- ==== Proof.Rot.lean ====
/- The second kernel's rotations: one joint's columns as a function of its template row and its joint column, and the whole result as twenty uses of it. -/
module

public import proofs.«01_k».proof.Proof.Gen.KernelIdeal.Frame
public import Idealize.ShloMosaic.Lib.Pipeline.ValueKit

@[expose] public section

set_option maxRecDepth 16384

noncomputable section

namespace Cert.KernelIdeal.Rot

open Cert.KernelIdeal Cert.KernelIdeal.Gen
open Idealize.ShloMosaic Idealize.ShloMosaic.TcCoe Idealize.SL.Sem

variable {F : FTy → Type} [FloatOps F]

/-- The length of a template row. -/
def rowLen (r : FVec F S1x3 .f32) : FVec F S1x1 .f32 :=
  sqrt (broadcast S1x1 (extractAt ![0, 0, 0] (shapeCast S1x1x1 (multiReduction .add [1, 2] S1
    (shapeCast S1x1x3 (mulf r r) shapeCasts_S1x3_S1x1x3) 0x00000000#32 reduces_S1x1x3_S1 (.inl rfl) rfl) shapeCasts_S1_S1x1x1) inpos_S1x1x1_p0_0_0))

/-- The template row over its length. -/
def rowUnit (r : FVec F S1x3 .f32) : FVec F S1x3 .f32 :=
  divf r (broadcastTo S1x3 (addf (rowLen r) (broadcast S1x1 (Scalar.ofBits .f32 0x322BCC77#32))) broadcasts_S1x1_S1x3)

/-- A component of the template's direction, for every batch row. -/
def rowX (r : FVec F S1x3 .f32) : FVec F S128x1 .f32 :=
  broadcastTo S128x1 (extractStridedSlice S1x1 ![0, 0] (rowUnit r) slices_S1x3_o0_0_S1x1) broadcasts_S1x1_S128x1
/-- A component of the template's direction, for every batch row. -/
def rowY (r : FVec F S1x3 .f32) : FVec F S128x1 .f32 :=
  broadcastTo S128x1 (extractStridedSlice S1x1 ![0, 1] (rowUnit r) slices_S1x3_o0_1_S1x1) broadcasts_S1x1_S128x1
/-- A component of the template's direction, for every batch row. -/
def rowZ (r : FVec F S1x3 .f32) : FVec F S128x1 .f32 :=
  broadcastTo S128x1 (extractStridedSlice S1x1 ![0, 2] (rowUnit r) slices_S1x3_o0_2_S1x1) broadcasts_S1x1_S128x1

/-- The length of a joint's position. -/
def colLen (d : FVec F S128x3 .f32) : FVec F S128x1 .f32 :=
  sqrt (shapeCast S128x1 (multiReduction .add [1] S128 (mulf d d) 0x00000000#32 reduces_S128x3_S128 (.inl rfl) rfl) shapeCasts_S128_S128x1)

/-- A joint's position over its length. -/
def colUnit (d : FVec F S128x3 .f32) : FVec F S128x3 .f32 :=
  divf d (broadcastTo S128x3 (addf (colLen d) (broadcast S128x1 (Scalar.ofBits .f32 0x322BCC77#32))) broadcasts_S128x1_S128x3)

/-- A component of the joint's direction. -/
def colX (d : FVec F S128x3 .f32) : FVec F S128x1 .f32 := extractStridedSlice S128x1 ![0, 0] (colUnit d) slices_S128x3_o0_0_S128x1
/-- A component of the joint's direction. -/
def colY (d : FVec F S128x3 .f32) : FVec F S128x1 .f32 := extractStridedSlice S128x1 ![0, 1] (colUnit d) slices_S128x3_o0_1_S128x1
/-- A component of the joint's direction. -/
def colZ (d : FVec F S128x3 .f32) : FVec F S128x1 .f32 := extractStridedSlice S128x1 ![0, 2] (colUnit d) slices_S128x3_o0_2_S128x1

/-- The rotation axis (a cross product), first component. -/
def axisX (r : FVec F S1x3 .f32) (d : FVec F S128x3 .f32) : FVec F S128x1 .f32 :=
  subf (mulf (rowY r) (colZ d)) (mulf (rowZ r) (colY d))
/-- The rotation axis, second component. -/
def axisY (r : FVec F S1x3 .f32) (d : FVec F S128x3 .f32) : FVec F S128x1 .f32 :=
  subf (mulf (rowZ r) (colX d)) (mulf (rowX r) (colZ d))
/-- The rotation axis, third component. -/
def axisZ (r : FVec F S1x3 .f32) (d : FVec F S128x3 .f32) : FVec F S128x1 .f32 :=
  subf (mulf (rowX r) (colY d)) (mulf (rowY r) (colX d))

/-- The axis' squared length. -/
def axisSq (r : FVec F S1x3 .f32) (d : FVec F S128x3 .f32) : FVec F S128x1 .f32 :=
  addf (addf (mulf (axisX r d) (axisX r d)) (mulf (axisY r d) (axisY r d))) (mulf (axisZ r d) (axisZ r d))

/-- The weight of the axis matrix' square. -/
def weight (r : FVec F S1x3 .f32) (d : FVec F S128x3 .f32) : FVec F S128x1 .f32 :=
  divf (subf (broadcast S128x1 (Scalar.ofBits .f32 0x3F800000#32))
      (addf (addf (mulf (rowX r) (colX d)) (mulf (rowY r) (colY d))) (mulf (rowZ r) (colZ d))))
    (addf (axisSq r d) (broadcast S128x1 (Scalar.ofBits .f32 0x322BCC77#32)))

/-- Whether one of the two vectors is too short to have a direction. -/
def short (r : FVec F S1x3 .f32) (d : FVec F S128x3 .f32) : IVec S128x1 1 :=
  ori (cmpf .olt (colLen d) (broadcast S128x1 (Scalar.ofBits .f32 0x358637BD#32)))
    (broadcastTo S128x1 (cmpf .olt (rowLen r) (broadcast S1x1 (Scalar.ofBits .f32 0x358637BD#32))) broadcasts_S1x1_S128x1)

/-- A diagonal entry of the rotation, from the axis component on it. -/
def onDiag (r : FVec F S1x3 .f32) (d : FVec F S128x3 .f32) (u : FVec F S128x1 .f32) : FVec F S128x1 .f32 :=
  select (short r d) (broadcast S128x1 (Scalar.ofBits .f32 0x3F800000#32))
    (addf (broadcast S128x1 (Scalar.ofBits .f32 0x3F800000#32)) (mulf (subf (mulf u u) (axisSq r d)) (weight r d)))

/-- An entry off the diagonal: `s`, and the product of two axis components with the weight. -/
def offDiag (r : FVec F S1x3 .f32) (d : FVec F S128x3 .f32) (s u v : FVec F S128x1 .f32) : FVec F S128x1 .f32 :=
  select (short r d) (broadcast S128x1 (Scalar.ofBits .f32 0x00000000#32)) (addf s (mulf (mulf u v) (weight r d)))

/-- The negative, as a difference from zero. -/
def negv (u : FVec F S128x1 .f32) : FVec F S128x1 .f32 := subf (broadcast S128x1 (Scalar.ofBits .f32 0x00000000#32)) u

/-- One joint's nine rotation entries, row by row. -/
def rot (r : FVec F S1x3 .f32) (d : FVec F S128x3 .f32) : FVec F S128x9 .f32 :=
  concatenate S128x9 1 [⟨S128x1, onDiag r d (axisX r d)⟩, ⟨S128x1, offDiag r d (negv (axisZ r d)) (axisX r d) (axisY r d)⟩,
    ⟨S128x1, offDiag r d (axisY r d) (axisX r d) (axisZ r d)⟩, ⟨S128x1, offDiag r d (axisZ r d) (axisX r d) (axisY r d)⟩,
    ⟨S128x1, onDiag r d (axisY r d)⟩, ⟨S128x1, offDiag r d (negv (axisX r d)) (axisY r d) (axisZ r d)⟩,
    ⟨S128x1, offDiag r d (negv (axisY r d)) (axisX r d) (axisZ r d)⟩, ⟨S128x1, offDiag r d (axisX r d) (axisY r d) (axisZ r d)⟩,
    ⟨S128x1, onDiag r d (axisZ r d)⟩] concatenates_S128x1_S128x1_S128x1_S128x1_S128x1_S128x1_S128x1_S128x1_S128x1_S128x9_d1

/-- The twenty template rows as the kernel loads them. -/
def rows (x8 : Vec F S20x3 .f32) : Fin 20 → FVec F S1x3 .f32 :=
  ![shapeCast S1x3 (View.ld x8 r1_9) shapeCasts_S1x3_S1x3, shapeCast S1x3 (View.ld x8 r1_10) shapeCasts_S1x3_S1x3, shapeCast S1x3 (View.ld x8 r1_11) shapeCasts_S1x3_S1x3, shapeCast S1x3 (View.ld x8 r1_12) shapeCasts_S1x3_S1x3, shapeCast S1x3 (View.ld x8 r1_13) shapeCasts_S1x3_S1x3, shapeCast S1x3 (View.ld x8 r1_14) shapeCasts_S1x3_S1x3, shapeCast S1x3 (View.ld x8 r1_15) shapeCasts_S1x3_S1x3, shapeCast S1x3 (View.ld x8 r1_16) shapeCasts_S1x3_S1x3, shapeCast S1x3 (View.ld x8 r1_17) shapeCasts_S1x3_S1x3, shapeCast S1x3 (View.ld x8 r1_18) shapeCasts_S1x3_S1x3, shapeCast S1x3 (View.ld x8 r1_19) shapeCasts_S1x3_S1x3, shapeCast S1x3 (View.ld x8 r1_20) shapeCasts_S1x3_S1x3, shapeCast S1x3 (View.ld x8 r1_21) shapeCasts_S1x3_S1x3, shapeCast S1x3 (View.ld x8 r1_22) shapeCasts_S1x3_S1x3, shapeCast S1x3 (View.ld x8 r1_23) shapeCasts_S1x3_S1x3, shapeCast S1x3 (View.ld x8 r1_24) shapeCasts_S1x3_S1x3, shapeCast S1x3 (View.ld x8 r1_25) shapeCasts_S1x3_S1x3, shapeCast S1x3 (View.ld x8 r1_26) shapeCasts_S1x3_S1x3, shapeCast S1x3 (View.ld x8 r1_27) shapeCasts_S1x3_S1x3, shapeCast S1x3 (View.ld x8 r1_28) shapeCasts_S1x3_S1x3]

/-- The twenty joints' columns as the kernel slices them. -/
def cols (j20 : FVec F S128x60 .f32) : Fin 20 → FVec F S128x3 .f32 :=
  ![extractStridedSlice S128x3 ![0, 0] j20 slices_S128x60_o0_0_S128x3, extractStridedSlice S128x3 ![0, 3] j20 slices_S128x60_o0_3_S128x3, extractStridedSlice S128x3 ![0, 6] j20 slices_S128x60_o0_6_S128x3, extractStridedSlice S128x3 ![0, 9] j20 slices_S128x60_o0_9_S128x3, extractStridedSlice S128x3 ![0, 12] j20 slices_S128x60_o0_12_S128x3, extractStridedSlice S128x3 ![0, 15] j20 slices_S128x60_o0_15_S128x3, extractStridedSlice S128x3 ![0, 18] j20 slices_S128x60_o0_18_S128x3, extractStridedSlice S128x3 ![0, 21] j20 slices_S128x60_o0_21_S128x3, extractStridedSlice S128x3 ![0, 24] j20 slices_S128x60_o0_24_S128x3, extractStridedSlice S128x3 ![0, 27] j20 slices_S128x60_o0_27_S128x3, extractStridedSlice S128x3 ![0, 30] j20 slices_S128x60_o0_30_S128x3, extractStridedSlice S128x3 ![0, 33] j20 slices_S128x60_o0_33_S128x3, extractStridedSlice S128x3 ![0, 36] j20 slices_S128x60_o0_36_S128x3, extractStridedSlice S128x3 ![0, 39] j20 slices_S128x60_o0_39_S128x3, extractStridedSlice S128x3 ![0, 42] j20 slices_S128x60_o0_42_S128x3, extractStridedSlice S128x3 ![0, 45] j20 slices_S128x60_o0_45_S128x3, extractStridedSlice S128x3 ![0, 48] j20 slices_S128x60_o0_48_S128x3, extractStridedSlice S128x3 ![0, 51] j20 slices_S128x60_o0_51_S128x3, extractStridedSlice S128x3 ![0, 54] j20 slices_S128x60_o0_54_S128x3, extractStridedSlice S128x3 ![0, 57] j20 slices_S128x60_o0_57_S128x3]

/-- The joints before the rotations. -/
def joints (x0 : Vec F S128x128 .f32) (x1 : Vec F S128x12 .f32) (x2 : Vec F S128x256 .f32) (x3 : Vec F S1x256 .f32) (x4 : Vec F S268x512 .f32) (x5 : Vec F S1x512 .f32) (x6 : Vec F S512x60 .f32) (x7 : Vec F S1x60 .f32) : FVec F S128x60 .f32 :=
  k1_pay1 (View.ld x0 r1_0) (View.ld x2 r1_1) (View.ld x3 r1_2) (View.ld x1 r1_3) (View.ld x4 r1_4) (View.ld x5 r1_5) (View.ld x6 r1_6) (View.ld x7 r1_7)

/-- All twenty joints' rotation entries. -/
def packed (j20 : FVec F S128x60 .f32) (x8 : Vec F S20x3 .f32) : FVec F S128x180 .f32 :=
  concatenate S128x180 1 (List.ofFn fun n : Fin 20 => (⟨S128x9, rot (rows x8 n) (cols j20 n)⟩ : (s : Shape) × FVec F s .f32)) concatenates_S128x9_S128x9_S128x9_S128x9_S128x9_S128x9_S128x9_S128x9_S128x9_S128x9_S128x9_S128x9_S128x9_S128x9_S128x9_S128x9_S128x9_S128x9_S128x9_S128x9_S128x180_d1

/-- The kernel's second output block is the twenty joints' rotation entries. -/
theorem out_eq (x0 : Vec F S128x128 .f32) (x1 : Vec F S128x12 .f32) (x2 : Vec F S128x256 .f32) (x3 : Vec F S1x256 .f32) (x4 : Vec F S268x512 .f32) (x5 : Vec F S1x512 .f32) (x6 : Vec F S512x60 .f32) (x7 : Vec F S1x60 .f32) (x8 : Vec F S20x3 .f32) :
    out1_10 x0 x1 x2 x3 x4 x5 x6 x7 x8 = View.canon [⟨r1_29, packed (joints x0 x1 x2 x3 x4 x5 x6 x7) x8⟩] := by
  chain_rfl

end Cert.KernelIdeal.Rot

end
-- ==== Proof.Spec.lean ====
/- The problem's quantities as functions of plain real-extended numbers, without any program's arrays or layouts. -/
module

public import Idealize.ShloMosaic.Lib.Pipeline.ValueKit

@[expose] public section

set_option maxRecDepth 16384

noncomputable section

namespace Cert.Spec

open Idealize.ShloMosaic

/-- The small number added to every length before dividing by it. -/
def eps : EReal := Ideal.ofBits .f32 0x322BCC77#32

/-- Below this length a vector counts as having no direction. -/
def tiny : EReal := Ideal.ofBits .f32 0x358637BD#32

/-- The length of a vector. -/
def len (v : Fin 3 → EReal) : EReal := Ideal.sqrt (∑ k, v k * v k)

/-- A vector over its length. -/
def dir (v : Fin 3 → EReal) (k : Fin 3) : EReal := Ideal.div (v k) (len v + eps)

/-- The cross product. -/
def cross (a b : Fin 3 → EReal) : Fin 3 → EReal :=
  ![a 1 * b 2 - a 2 * b 1, a 2 * b 0 - a 0 * b 2, a 0 * b 1 - a 1 * b 0]

/-- A vector's squared length, summed from the left. -/
def sq (v : Fin 3 → EReal) : EReal := v 0 * v 0 + v 1 * v 1 + v 2 * v 2

/-- The weight of the axis matrix' square in the rotation, from two directions. -/
def weight (a b : Fin 3 → EReal) : EReal :=
  Ideal.div (1 - (a 0 * b 0 + a 1 * b 1 + a 2 * b 2)) (sq (cross a b) + eps)

/-- One of the two vectors is too short to have a direction. -/
def Short (t d : Fin 3 → EReal) : Prop := len d < tiny ∨ len t < tiny

/-- The entries of the rotation, written out from the axis `v`, its square `s` and the weight `f`. -/
def entry (v : Fin 3 → EReal) (s f : EReal) : Fin 3 → Fin 3 → EReal :=
  ![![1 + (v 0 * v 0 - s) * f, 0 - v 2 + v 0 * v 1 * f, v 1 + v 0 * v 2 * f],
    ![v 2 + v 0 * v 1 * f, 1 + (v 1 * v 1 - s) * f, 0 - v 0 + v 1 * v 2 * f],
    ![0 - v 1 + v 0 * v 2 * f, v 0 + v 1 * v 2 * f, 1 + (v 2 * v 2 - s) * f]]

open Classical in
/-- The rotation that turns the direction of `t` to the direction of `d`; the identity where one is too short. -/
def rot (t d : Fin 3 → EReal) (i k : Fin 3) : EReal :=
  if Short t d then (if i = k then 1 else 0)
  else entry (cross (dir t) (dir d)) (sq (cross (dir t) (dir d))) (weight (dir t) (dir d)) i k

/-- The squared radius about a joint within which a point counts. -/
def radius : EReal := Ideal.ofBits .f32 0x3A23D70A#32

/-- The squared distance of two points. -/
def dist (p t : Fin 3 → EReal) : EReal :=
  (p 0 - t 0) * (p 0 - t 0) + (p 1 - t 1) * (p 1 - t 1) + (p 2 - t 2) * (p 2 - t 2)

/-- One feature of the point `p` with normal `q` about a joint at `t` with rotation `R`: the weights are turned first, then applied. -/
def feat (wp wn : Fin 3 → EReal) (b : EReal) (R : Fin 3 → Fin 3 → EReal) (t p q : Fin 3 → EReal) : EReal :=
  max ((∑ d, (∑ k, wp k * R d k) * p d + ∑ d, (∑ k, wn k * R d k) * q d) + (b - ∑ d, (∑ k, wp k * R d k) * t d)) 0

open Classical in
/-- The largest feature over the marked points, zero where no point is marked. -/
def poolOver {N : ℕ} (near : Fin N → Prop) (hf : Fin N → EReal) : EReal :=
  if ∃ p, near p then Finset.univ.fold max (Ideal.ofBits .f32 0xFF800000#32) (fun p => if near p then hf p else Ideal.ofBits .f32 0xCE6E6B28#32) else 0

/-- A joint's features: the embedded position, then the pooled ones. -/
def jointFeat (wje : Fin 3 → Fin 128 → EReal) (bje : Fin 128 → EReal) (t : Fin 3 → EReal) (pool : Fin 128 → EReal) (n : Fin 256) : EReal :=
  if h : n.val < 128 then ∑ d, wje d ⟨n.val, h⟩ * t d + bje ⟨n.val, h⟩ else pool ⟨n.val - 128, by omega⟩

/-- A joint's displacement in its own frame. -/
def localDisp (w1 : Fin 256 → Fin 256 → EReal) (b1 : Fin 256 → EReal) (w2 : Fin 256 → Fin 3 → EReal) (b2 : Fin 3 → EReal) (jf : Fin 256 → EReal) (i : Fin 3) : EReal :=
  ∑ o, w2 o i * max (∑ n, w1 n o * jf n + b1 o) 0 + b2 i

/-- A joint's final displacement: its own-frame displacement, from its features and the points about it, turned by its rotation.
    `dt` is the template's joint, `t` the predicted joint, `pos` and `nrm` the object's points and normals. -/
def jointDisp (wje : Fin 3 → Fin 128 → EReal) (bje : Fin 128 → EReal) (wjf : Fin 6 → Fin 128 → EReal) (bjf : Fin 128 → EReal)
    (w1 : Fin 256 → Fin 256 → EReal) (b1 : Fin 256 → EReal) (w2 : Fin 256 → Fin 3 → EReal) (b2 : Fin 3 → EReal)
    (dt t : Fin 3 → EReal) (pos nrm : Fin 4096 → Fin 3 → EReal) (i : Fin 3) : EReal :=
  ∑ k, rot dt t i k * localDisp w1 b1 w2 b2 (jointFeat wje bje t fun o =>
    poolOver (fun p => dist (pos p) t < radius)
      (fun p => feat (fun k => wjf ⟨k.val, by omega⟩ o) (fun k => wjf ⟨3 + k.val, by omega⟩ o) (bjf o) (rot dt t) t (pos p) (nrm p))) k

end Cert.Spec

end
-- ==== Proof.RotRead.lean ====
/- One joint's rotation columns read at an entry. -/
module

public import proofs.«01_k».proof.Proof.Rot
public import proofs.«01_k».proof.Proof.Spec

@[expose] public section

set_option maxRecDepth 16384

noncomputable section

namespace Cert.KernelIdeal.Rot

open Cert.KernelIdeal Cert.KernelIdeal.Gen
open Idealize.ShloMosaic Idealize.ShloMosaic.TcCoe Idealize.SL.Sem

/-- The template row's length is the spec's. -/
theorem rowLen_apply (r : FVec Ideal S1x3 .f32) : rowLen r (ix2 0 0) = Spec.len (fun k => r (ix2 0 k)) := by
  pointwise [rowLen, Spec.len]
  simp

theorem colLen_apply (d : FVec Ideal S128x3 .f32) (b : Fin 128) : colLen d (ix2 b 0) = Spec.len (fun k => d (ix2 b k)) := by
  pointwise [colLen, Spec.len]

theorem rowX_apply (r : FVec Ideal S1x3 .f32) (b : Fin 128) : rowX r (ix2 b 0) = Spec.dir (fun k => r (ix2 0 k)) 0 := by
  pointwise [rowX, rowUnit, rowLen_apply, Spec.dir, Spec.eps]
theorem rowY_apply (r : FVec Ideal S1x3 .f32) (b : Fin 128) : rowY r (ix2 b 0) = Spec.dir (fun k => r (ix2 0 k)) 1 := by
  pointwise [rowY, rowUnit, rowLen_apply, Spec.dir, Spec.eps]
theorem rowZ_apply (r : FVec Ideal S1x3 .f32) (b : Fin 128) : rowZ r (ix2 b 0) = Spec.dir (fun k => r (ix2 0 k)) 2 := by
  pointwise [rowZ, rowUnit, rowLen_apply, Spec.dir, Spec.eps]
theorem colX_apply (d : FVec Ideal S128x3 .f32) (b : Fin 128) : colX d (ix2 b 0) = Spec.dir (fun k => d (ix2 b k)) 0 := by
  pointwise [colX, colUnit, colLen_apply, Spec.dir, Spec.eps]
theorem colY_apply (d : FVec Ideal S128x3 .f32) (b : Fin 128) : colY d (ix2 b 0) = Spec.dir (fun k => d (ix2 b k)) 1 := by
  pointwise [colY, colUnit, colLen_apply, Spec.dir, Spec.eps]
theorem colZ_apply (d : FVec Ideal S128x3 .f32) (b : Fin 128) : colZ d (ix2 b 0) = Spec.dir (fun k => d (ix2 b k)) 2 := by
  pointwise [colZ, colUnit, colLen_apply, Spec.dir, Spec.eps]

variable (r : FVec Ideal S1x3 .f32) (d : FVec Ideal S128x3 .f32) (b : Fin 128)

theorem axisX_apply : axisX r d (ix2 b 0) = Spec.cross (Spec.dir fun k => r (ix2 0 k)) (Spec.dir fun k => d (ix2 b k)) 0 := by
  pointwise [axisX, rowX_apply, rowY_apply, rowZ_apply, colX_apply, colY_apply, colZ_apply]; rfl
theorem axisY_apply : axisY r d (ix2 b 0) = Spec.cross (Spec.dir fun k => r (ix2 0 k)) (Spec.dir fun k => d (ix2 b k)) 1 := by
  pointwise [axisY, rowX_apply, rowY_apply, rowZ_apply, colX_apply, colY_apply, colZ_apply]; rfl
theorem axisZ_apply : axisZ r d (ix2 b 0) = Spec.cross (Spec.dir fun k => r (ix2 0 k)) (Spec.dir fun k => d (ix2 b k)) 2 := by
  pointwise [axisZ, rowX_apply, rowY_apply, rowZ_apply, colX_apply, colY_apply, colZ_apply]; rfl

theorem axisSq_apply : axisSq r d (ix2 b 0) = Spec.sq (Spec.cross (Spec.dir fun k => r (ix2 0 k)) (Spec.dir fun k => d (ix2 b k))) := by
  pointwise [axisSq, axisX_apply, axisY_apply, axisZ_apply, Spec.sq]

theorem weight_apply : weight r d (ix2 b 0) = Spec.weight (Spec.dir fun k => r (ix2 0 k)) (Spec.dir fun k => d (ix2 b k)) := by
  pointwise [weight, axisSq_apply, rowX_apply, rowY_apply, rowZ_apply, colX_apply, colY_apply, colZ_apply, Spec.weight, Spec.eps]

open Classical in
theorem short_apply : short r d (ix2 b 0) = BitVec.ofBool (decide (Spec.Short (fun k => r (ix2 0 k)) (fun k => d (ix2 b k)))) := by
  pointwise [short, rowLen_apply, colLen_apply, Spec.Short, Spec.tiny]
  by_cases h1 : Spec.len (fun k => d (ix2 b k)) < Ideal.ofBits FTy.f32 897988541#32 <;>
    by_cases h2 : Spec.len (fun k => r (ix2 0 k)) < Ideal.ofBits FTy.f32 897988541#32 <;>
    simp [h1, h2, IntOp.ori]

open Classical in
theorem onDiag_apply (u : FVec Ideal S128x1 .f32) : onDiag r d u (ix2 b 0)
    = if Spec.Short (fun k => r (ix2 0 k)) (fun k => d (ix2 b k)) then 1 else
      1 + (u (ix2 b 0) * u (ix2 b 0) - Spec.sq (Spec.cross (Spec.dir fun k => r (ix2 0 k)) (Spec.dir fun k => d (ix2 b k))))
        * Spec.weight (Spec.dir fun k => r (ix2 0 k)) (Spec.dir fun k => d (ix2 b k)) := by
  pointwise [onDiag, short_apply, axisSq_apply, weight_apply]

open Classical in
theorem offDiag_apply (s u v : FVec Ideal S128x1 .f32) : offDiag r d s u v (ix2 b 0)
    = if Spec.Short (fun k => r (ix2 0 k)) (fun k => d (ix2 b k)) then 0 else
      s (ix2 b 0) + u (ix2 b 0) * v (ix2 b 0)
        * Spec.weight (Spec.dir fun k => r (ix2 0 k)) (Spec.dir fun k => d (ix2 b k)) := by
  pointwise [offDiag, short_apply, weight_apply]

theorem negv_apply (u : FVec Ideal S128x1 .f32) : negv u (ix2 b 0) = 0 - u (ix2 b 0) := by
  pointwise [negv]

/-- One joint's column block, read at entry `(i, k)`, is the spec's rotation entry. -/
theorem rot_apply (i k : Fin 3) : rot r d (ix2 b ⟨3 * i.val + k.val, by omega⟩)
    = Spec.rot (fun k => r (ix2 0 k)) (fun k => d (ix2 b k)) i k := by
  fin_cases i <;> fin_cases k <;>
    pointwise [rot, onDiag_apply, offDiag_apply, negv_apply, axisX_apply, axisY_apply, axisZ_apply]
  all_goals simp [Spec.rot, Spec.entry]

/-- The twenty template rows are the array's rows. -/
theorem rows_apply (x8 : Vec Ideal S20x3 .f32) (n : Fin 20) (k : Fin 3) : rows x8 n (ix2 0 k) = x8 (ix2 n k) := by
  fin_cases n <;> dsimp [rows] <;> pointwise

/-- The twenty joints' columns are the array's columns, three each. -/
theorem cols_apply (j20 : FVec Ideal S128x60 .f32) (n : Fin 20) (b : Fin 128) (k : Fin 3) :
    cols j20 n (ix2 b k) = j20 (ix2 b ⟨3 * n.val + k.val, by omega⟩) := by
  fin_cases n <;> dsimp [cols] <;> pointwise
  all_goals rfl

/-- The packed rotations at joint `n`'s entry `(i, k)`. -/
theorem packed_apply (j20 : FVec Ideal S128x60 .f32) (x8 : Vec Ideal S20x3 .f32) (b : Fin 128) (n : Fin 20) (i k : Fin 3) :
    packed j20 x8 (ix2 b ⟨9 * n.val + (3 * i.val + k.val), by omega⟩)
    = Spec.rot (fun k => x8 (ix2 n k)) (fun k => j20 (ix2 b ⟨3 * n.val + k.val, by omega⟩)) i k := by
  refine (concatenate_ofFn_apply (s₁ := S128x9) (t := S128x180) 1 (fun n => rot (rows x8 n) (cols j20 n)) _ rfl 9 rfl _ n ?_
    (ix2 b ⟨3 * i.val + k.val, by omega⟩) ?_ ?_).trans ?_
  · show (9 * n.val + (3 * i.val + k.val)) / 9 = n.val
    omega
  · show 3 * i.val + k.val = (9 * n.val + (3 * i.val + k.val)) % 9
    omega
  · intro a ha
    fin_cases a
    · rfl
    · exact absurd rfl ha
  · rw [rot_apply]
    simp only [rows_apply, cols_apply]

end Cert.KernelIdeal.Rot

end
-- ==== Proof.Joints.lean ====
/- The second kernel's two result arrays after its run: the joints, and the packed rotations. -/
module

public import proofs.«01_k».proof.Proof.RotRead

@[expose] public section

set_option maxRecDepth 16384

noncomputable section

namespace Cert.KernelIdeal.Joints

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c.tc : Thread nD τ).loc b))

/-- The one grid point's blocks are the whole arrays. -/
theorem idx : ∀ t : Fin cfg1.N, (win1_0.index t = ![0, 0] ∧ win1_1.index t = ![0, 0] ∧ win1_2.index t = ![0, 0]
    ∧ win1_3.index t = ![0, 0] ∧ win1_4.index t = ![0, 0] ∧ win1_5.index t = ![0, 0]) ∧ win1_6.index t = ![0, 0]
    ∧ win1_7.index t = ![0, 0] ∧ win1_8.index t = ![0, 0] ∧ win1_9.index t = ![0, 0] ∧ win1_10.index t = ![0, 0] :=
  (by decide +kernel : ∀ t : Fin grid1.N, _)

/-- The joints array: the second kernel's first payload over its argument arrays. -/
theorem joints_final (c : Dev nD) : (dat1 V c).arrAt 9 cfg1.N
    = k1_pay1 (F := Ideal) (V c main_v3) (V c main_arg6) (V c main_v11) (V c main_v10) (V c main_arg8) (V c main_v12) (V c main_arg10) (V c main_v13) := by
  refine (dat1 V c).arrAt_eq_of_after_last 9 t1_0 (by decide +kernel) _ fun j => ?_
  blk_simp
  rw [after1_9]; frame_out
  blk_point [iblk1, idx t1_0]

/-! Each window's one block is its whole array. -/

theorem blk0 (c : Dev nD) : iblk1 V c 0 t1_0 = V c main_v3 := by blk_ext! [iblk1, idx t1_0]
theorem blk1 (c : Dev nD) : iblk1 V c 1 t1_0 = V c main_v10 := by blk_ext! [iblk1, idx t1_0]
theorem blk2 (c : Dev nD) : iblk1 V c 2 t1_0 = V c main_arg6 := by blk_ext! [iblk1, idx t1_0]
theorem blk3 (c : Dev nD) : iblk1 V c 3 t1_0 = V c main_v11 := by blk_ext! [iblk1, idx t1_0]
theorem blk4 (c : Dev nD) : iblk1 V c 4 t1_0 = V c main_arg8 := by blk_ext! [iblk1, idx t1_0]
theorem blk5 (c : Dev nD) : iblk1 V c 5 t1_0 = V c main_v12 := by blk_ext! [iblk1, idx t1_0]
theorem blk6 (c : Dev nD) : iblk1 V c 6 t1_0 = V c main_arg10 := by blk_ext! [iblk1, idx t1_0]
theorem blk7 (c : Dev nD) : iblk1 V c 7 t1_0 = V c main_v13 := by blk_ext! [iblk1, idx t1_0]
theorem blk8 (c : Dev nD) : iblk1 V c 8 t1_0 = V c main_v9 := by blk_ext! [iblk1, idx t1_0]

/-- The packed rotations: the twenty joints' entries over the joints and the template rows. -/
theorem packed_final (c : Dev nD) : (dat1 V c).arrAt 10 cfg1.N
    = Rot.packed (F := Ideal) (k1_pay1 (F := Ideal) (V c main_v3) (V c main_arg6) (V c main_v11) (V c main_v10) (V c main_arg8) (V c main_v12) (V c main_arg10) (V c main_v13))
        (V c main_v9) := by
  refine (dat1 V c).arrAt_eq_of_after_last 10 t1_0 (by decide +kernel) _ fun j => ?_
  blk_simp
  rw [after1_10, Rot.out_eq, blk0, blk1, blk2, blk3, blk4, blk5, blk6, blk7, blk8]
  simp only [Rot.joints]
  frame_out

end Cert.KernelIdeal.Joints

end
-- ==== Proof.Disp.lean ====
/- The third kernel's displacements: one joint's pooled features and one joint's displacement as functions of its slices, and the whole result as twenty uses of each. -/
module

public import proofs.«01_k».proof.Proof.Gen.KernelIdeal.Frame
public import Idealize.ShloMosaic.Lib.Pipeline.ValueKit

@[expose] public section

set_option maxRecDepth 16384

noncomputable section

namespace Cert.KernelIdeal.Disp

open Cert.KernelIdeal Cert.KernelIdeal.Gen
open Idealize.ShloMosaic Idealize.ShloMosaic.TcCoe Idealize.SL.Sem

variable {F : FTy → Type} [FloatOps F]

/-- The points' features about one joint: the weights turned by the joint's rotation, applied to every point, the joint's own part taken off. -/
def feats (pts : FVec F S6x4096 .f32) (wp wn : FVec F S128x3 .f32) (bj : FVec F S128x1 .f32) (rT : FVec F S3x3 .f32) (t : FVec F S3x1 .f32) :
    FVec F S128x4096 .f32 :=
  maximumf (addf
      (matmul dot_S128x6_S6x4096_S128x4096_1_0_0_1_n_n none
        (concatenate S128x6 1 [⟨S128x3, matmul dot_S128x3_S3x3_S128x3_1_0_0_1_n_n none wp rT (constant S128x3 .f32 0x00000000#32)⟩,
          ⟨S128x3, matmul dot_S128x3_S3x3_S128x3_1_0_0_1_n_n none wn rT (constant S128x3 .f32 0x00000000#32)⟩] concatenates_S128x3_S128x3_S128x6_d1)
        pts (constant S128x4096 .f32 0x00000000#32))
      (broadcastTo S128x4096 (subf bj (matmul dot_S128x3_S3x1_S128x1_1_0_0_1_n_n none
        (matmul dot_S128x3_S3x3_S128x3_1_0_0_1_n_n none wp rT (constant S128x3 .f32 0x00000000#32)) t (constant S128x1 .f32 0x00000000#32))) broadcasts_S128x1_S128x4096))
    (broadcast S128x4096 (Scalar.ofBits .f32 0x00000000#32))

/-- Every point's squared distance to the joint. -/
def dist (pos : FVec F S3x4096 .f32) (t : FVec F S3x1 .f32) : FVec F S1x4096 .f32 :=
  addf (addf
      (mulf (subf (extractStridedSlice S1x4096 ![0, 0] pos slices_S3x4096_o0_0_S1x4096) (broadcastTo S1x4096 (extractStridedSlice S1x1 ![0, 0] t slices_S3x1_o0_0_S1x1) broadcasts_S1x1_S1x4096))
        (subf (extractStridedSlice S1x4096 ![0, 0] pos slices_S3x4096_o0_0_S1x4096) (broadcastTo S1x4096 (extractStridedSlice S1x1 ![0, 0] t slices_S3x1_o0_0_S1x1) broadcasts_S1x1_S1x4096)))
      (mulf (subf (extractStridedSlice S1x4096 ![1, 0] pos slices_S3x4096_o1_0_S1x4096) (broadcastTo S1x4096 (extractStridedSlice S1x1 ![1, 0] t slices_S3x1_o1_0_S1x1) broadcasts_S1x1_S1x4096))
        (subf (extractStridedSlice S1x4096 ![1, 0] pos slices_S3x4096_o1_0_S1x4096) (broadcastTo S1x4096 (extractStridedSlice S1x1 ![1, 0] t slices_S3x1_o1_0_S1x1) broadcasts_S1x1_S1x4096))))
    (mulf (subf (extractStridedSlice S1x4096 ![2, 0] pos slices_S3x4096_o2_0_S1x4096) (broadcastTo S1x4096 (extractStridedSlice S1x1 ![2, 0] t slices_S3x1_o2_0_S1x1) broadcasts_S1x1_S1x4096))
      (subf (extractStridedSlice S1x4096 ![2, 0] pos slices_S3x4096_o2_0_S1x4096) (broadcastTo S1x4096 (extractStridedSlice S1x1 ![2, 0] t slices_S3x1_o2_0_S1x1) broadcasts_S1x1_S1x4096)))

/-- Which points are near the joint. -/
def near (pos : FVec F S3x4096 .f32) (t : FVec F S3x1 .f32) : IVec S1x4096 1 :=
  cmpf .olt (dist pos t) (broadcast S1x4096 (Scalar.ofBits .f32 0x3A23D70A#32))

/-- Whether any point is near the joint: the largest of the points' ones and zeros against zero. -/
def anyNear (mask : IVec S1x4096 1) : BitVec 1 :=
  Scalar.cmpf .ogt (extractAt ![0, 0, 0] (shapeCast S1x1x1 (multiReduction .maximumf [1, 2] S1
    (shapeCast S1x1x4096 (select mask (broadcast S1x4096 (Scalar.ofBits .f32 0x3F800000#32)) (broadcast S1x4096 (Scalar.ofBits (F := F) .f32 0x00000000#32))) shapeCasts_S1x4096_S1x1x4096)
    0xFF800000#32 reduces_S1x1x4096_S1 (.inl rfl) rfl) shapeCasts_S1_S1x1x1) inpos_S1x1x1_p0_0_0) (Scalar.ofBits (F := F) .f32 0x00000000#32)

/-- The largest feature over the points that `mask` marks, zero where it marks none. -/
def pooled (hf : FVec F S128x4096 .f32) (mask : IVec S1x4096 1) : FVec F S128x1 .f32 :=
  Scalar.select (anyNear (F := F) mask)
    (shapeCast S128x1 (multiReduction .maximumf [1] S128
      (select (broadcastTo S128x4096 (shapeCast S1x4096 mask shapeCasts_S1x4096_S1x4096) broadcasts_S1x4096_S128x4096) hf (broadcast S128x4096 (Scalar.ofBits .f32 0xCE6E6B28#32)))
      0xFF800000#32 reduces_S128x4096_S128 (.inl rfl) rfl) shapeCasts_S128_S128x1)
    (broadcast S128x1 (Scalar.ofBits .f32 0x00000000#32))

/-- One joint's pooled features. -/
def pool (pts : FVec F S6x4096 .f32) (wp wn : FVec F S128x3 .f32) (bj : FVec F S128x1 .f32) (rT : FVec F S3x3 .f32) (t : FVec F S3x1 .f32) : FVec F S128x1 .f32 :=
  pooled (feats pts wp wn bj rT t) (near (extractStridedSlice S3x4096 ![0, 0] pts slices_S6x4096_o0_0_S3x4096) t)

/-- The twenty joints' positions as columns. -/
def cols (tj : FVec F S3x20 .f32) : Fin 20 → FVec F S3x1 .f32 :=
  ![extractStridedSlice S3x1 ![0, 0] tj slices_S3x20_o0_0_S3x1, extractStridedSlice S3x1 ![0, 1] tj slices_S3x20_o0_1_S3x1, extractStridedSlice S3x1 ![0, 2] tj slices_S3x20_o0_2_S3x1, extractStridedSlice S3x1 ![0, 3] tj slices_S3x20_o0_3_S3x1, extractStridedSlice S3x1 ![0, 4] tj slices_S3x20_o0_4_S3x1, extractStridedSlice S3x1 ![0, 5] tj slices_S3x20_o0_5_S3x1, extractStridedSlice S3x1 ![0, 6] tj slices_S3x20_o0_6_S3x1, extractStridedSlice S3x1 ![0, 7] tj slices_S3x20_o0_7_S3x1, extractStridedSlice S3x1 ![0, 8] tj slices_S3x20_o0_8_S3x1, extractStridedSlice S3x1 ![0, 9] tj slices_S3x20_o0_9_S3x1, extractStridedSlice S3x1 ![0, 10] tj slices_S3x20_o0_10_S3x1, extractStridedSlice S3x1 ![0, 11] tj slices_S3x20_o0_11_S3x1, extractStridedSlice S3x1 ![0, 12] tj slices_S3x20_o0_12_S3x1, extractStridedSlice S3x1 ![0, 13] tj slices_S3x20_o0_13_S3x1, extractStridedSlice S3x1 ![0, 14] tj slices_S3x20_o0_14_S3x1, extractStridedSlice S3x1 ![0, 15] tj slices_S3x20_o0_15_S3x1, extractStridedSlice S3x1 ![0, 16] tj slices_S3x20_o0_16_S3x1, extractStridedSlice S3x1 ![0, 17] tj slices_S3x20_o0_17_S3x1, extractStridedSlice S3x1 ![0, 18] tj slices_S3x20_o0_18_S3x1, extractStridedSlice S3x1 ![0, 19] tj slices_S3x20_o0_19_S3x1]

/-- The twenty three-by-three blocks of a stack of sixty rows. -/
def blocks (x : Vec F S1x60x3 .f32) : Fin 20 → FVec F S3x3 .f32 :=
  ![shapeCast S3x3 (View.ld x r2_5) shapeCasts_S1x3x3_S3x3, shapeCast S3x3 (View.ld x r2_6) shapeCasts_S1x3x3_S3x3, shapeCast S3x3 (View.ld x r2_7) shapeCasts_S1x3x3_S3x3, shapeCast S3x3 (View.ld x r2_8) shapeCasts_S1x3x3_S3x3, shapeCast S3x3 (View.ld x r2_9) shapeCasts_S1x3x3_S3x3, shapeCast S3x3 (View.ld x r2_10) shapeCasts_S1x3x3_S3x3, shapeCast S3x3 (View.ld x r2_11) shapeCasts_S1x3x3_S3x3, shapeCast S3x3 (View.ld x r2_12) shapeCasts_S1x3x3_S3x3, shapeCast S3x3 (View.ld x r2_13) shapeCasts_S1x3x3_S3x3, shapeCast S3x3 (View.ld x r2_14) shapeCasts_S1x3x3_S3x3, shapeCast S3x3 (View.ld x r2_15) shapeCasts_S1x3x3_S3x3, shapeCast S3x3 (View.ld x r2_16) shapeCasts_S1x3x3_S3x3, shapeCast S3x3 (View.ld x r2_17) shapeCasts_S1x3x3_S3x3, shapeCast S3x3 (View.ld x r2_18) shapeCasts_S1x3x3_S3x3, shapeCast S3x3 (View.ld x r2_19) shapeCasts_S1x3x3_S3x3, shapeCast S3x3 (View.ld x r2_20) shapeCasts_S1x3x3_S3x3, shapeCast S3x3 (View.ld x r2_21) shapeCasts_S1x3x3_S3x3, shapeCast S3x3 (View.ld x r2_22) shapeCasts_S1x3x3_S3x3, shapeCast S3x3 (View.ld x r2_23) shapeCasts_S1x3x3_S3x3, shapeCast S3x3 (View.ld x r2_24) shapeCasts_S1x3x3_S3x3]

/-- The joints' features: the embedded position over the pooled features. -/
def features (tj : FVec F S3x20 .f32) (pool : Fin 20 → FVec F S128x1 .f32) (wje : FVec F S128x3 .f32) (bje : FVec F S128x1 .f32) : FVec F S256x20 .f32 :=
  concatenate S256x20 0 [⟨S128x20, addf (matmul dot_S128x3_S3x20_S128x20_1_0_0_1_n_n none wje tj (constant S128x20 .f32 0x00000000#32)) (broadcastTo S128x20 bje broadcasts_S128x1_S128x20)⟩,
    ⟨S128x20, concatenate S128x20 1 (List.ofFn fun n : Fin 20 => (⟨S128x1, pool n⟩ : (s : Shape) × FVec F s .f32)) concatenates_S128x1_S128x1_S128x1_S128x1_S128x1_S128x1_S128x1_S128x1_S128x1_S128x1_S128x1_S128x1_S128x1_S128x1_S128x1_S128x1_S128x1_S128x1_S128x1_S128x1_S128x20_d1⟩] concatenates_S128x20_S128x20_S256x20_d0

/-- The joints' displacements in their own frames, from the features. -/
def local_ (jf : FVec F S256x20 .f32) (w1 : FVec F S256x256 .f32) (b1 : FVec F S256x1 .f32) (w2 : FVec F S3x256 .f32) (b2 : FVec F S3x1 .f32) : FVec F S3x20 .f32 :=
  addf (matmul dot_S3x256_S256x20_S3x20_1_0_0_1_n_n none w2
    (maximumf (addf (matmul dot_S256x256_S256x20_S256x20_1_0_0_1_n_n none w1 jf (constant S256x20 .f32 0x00000000#32)) (broadcastTo S256x20 b1 broadcasts_S256x1_S256x20))
      (broadcast S256x20 (Scalar.ofBits .f32 0x00000000#32))) (constant S3x20 .f32 0x00000000#32)) (broadcastTo S3x20 b2 broadcasts_S3x1_S3x20)

/-- One joint's displacement turned back by its rotation. -/
def turned (r : FVec F S3x3 .f32) (u : FVec F S3x1 .f32) : FVec F S3x1 .f32 :=
  matmul dot_S3x3_S3x1_S3x1_1_0_0_1_n_n none r u (constant S3x1 .f32 0x00000000#32)

/-- The joints' features over the kernel's input blocks. -/
def features_ (x0 : Vec F S1x6x4096 .f32) (x1 : Vec F S1x60x3 .f32) (x3 : Vec F S1x3x20 .f32) (x4 : Vec F S128x6 .f32) (x5 : Vec F S128x1 .f32) (x6 : Vec F S128x3 .f32) (x7 : Vec F S128x1 .f32) : FVec F S256x20 .f32 :=
  features (shapeCast S3x20 (View.ld x3 r2_1) shapeCasts_S1x3x20_S3x20)
    (fun n => pool (shapeCast S6x4096 (View.ld x0 r2_0) shapeCasts_S1x6x4096_S6x4096) (shapeCast S128x3 (View.ld x4 r2_2) shapeCasts_S128x3_S128x3) (shapeCast S128x3 (View.ld x4 r2_3) shapeCasts_S128x3_S128x3)
      (shapeCast S128x1 (View.ld x5 r2_4) shapeCasts_S128x1_S128x1) (blocks x1 n) (cols (shapeCast S3x20 (View.ld x3 r2_1) shapeCasts_S1x3x20_S3x20) n))
    (shapeCast S128x3 (View.ld x6 r2_25) shapeCasts_S128x3_S128x3) (shapeCast S128x1 (View.ld x7 r2_4) shapeCasts_S128x1_S128x1)

/-- The displacements in the joints' frames over the kernel's input blocks. -/
def locals (x0 : Vec F S1x6x4096 .f32) (x1 : Vec F S1x60x3 .f32) (x3 : Vec F S1x3x20 .f32) (x4 : Vec F S128x6 .f32) (x5 : Vec F S128x1 .f32) (x6 : Vec F S128x3 .f32) (x7 : Vec F S128x1 .f32) (x8 : Vec F S256x256 .f32) (x9 : Vec F S256x1 .f32) (x10 : Vec F S3x256 .f32) (x11 : Vec F S3x1 .f32) : FVec F S3x20 .f32 :=
  local_ (features_ x0 x1 x3 x4 x5 x6 x7) (shapeCast S256x256 (View.ld x8 r2_26) shapeCasts_S256x256_S256x256) (shapeCast S256x1 (View.ld x9 r2_27) shapeCasts_S256x1_S256x1)
    (shapeCast S3x256 (View.ld x10 r2_28) shapeCasts_S3x256_S3x256) (shapeCast S3x1 (View.ld x11 r2_29) shapeCasts_S3x1_S3x1)

/-- All twenty joints' displacements, from the displacements in their own frames and the rotations. -/
def turnedAll (u : FVec F S3x20 .f32) (x2 : Vec F S1x60x3 .f32) : FVec F S1x3x20 .f32 :=
  shapeCast S1x3x20 (concatenate S3x20 1 (List.ofFn fun n : Fin 20 => (⟨S3x1, turned (blocks x2 n) (cols u n)⟩ : (s : Shape) × FVec F s .f32)) concatenates_S3x1_S3x1_S3x1_S3x1_S3x1_S3x1_S3x1_S3x1_S3x1_S3x1_S3x1_S3x1_S3x1_S3x1_S3x1_S3x1_S3x1_S3x1_S3x1_S3x1_S3x20_d1) shapeCasts_S3x20_S1x3x20

/-- The features as the kernel's text computes them. -/
theorem features_eq (x0 : Vec F S1x6x4096 .f32) (x1 : Vec F S1x60x3 .f32) (x2 : Vec F S1x60x3 .f32) (x3 : Vec F S1x3x20 .f32) (x4 : Vec F S128x6 .f32) (x5 : Vec F S128x1 .f32) (x6 : Vec F S128x3 .f32) (x7 : Vec F S128x1 .f32) (x8 : Vec F S256x256 .f32) (x9 : Vec F S256x1 .f32) (x10 : Vec F S3x256 .f32) (x11 : Vec F S3x1 .f32) :
    k2_pay136 x0 x1 x2 x3 x4 x5 x6 x7 x8 x9 x10 x11 = features_ x0 x1 x3 x4 x5 x6 x7 := by
  chain_rfl

/-- The kernel's output block is the twenty joints' displacements. -/
theorem out_eq (x0 : Vec F S1x6x4096 .f32) (x1 : Vec F S1x60x3 .f32) (x2 : Vec F S1x60x3 .f32) (x3 : Vec F S1x3x20 .f32) (x4 : Vec F S128x6 .f32) (x5 : Vec F S128x1 .f32) (x6 : Vec F S128x3 .f32) (x7 : Vec F S128x1 .f32) (x8 : Vec F S256x256 .f32) (x9 : Vec F S256x1 .f32) (x10 : Vec F S3x256 .f32) (x11 : Vec F S3x1 .f32) :
    out2_12 x0 x1 x2 x3 x4 x5 x6 x7 x8 x9 x10 x11
    = View.canon [⟨r2_1, turnedAll (locals x0 x1 x3 x4 x5 x6 x7 x8 x9 x10 x11) x2⟩] := by
  unfold out2_12 k2_pay137
  rw [features_eq]
  chain_rfl

end Cert.KernelIdeal.Disp

end
-- ==== Proof.Consts.lean ====
/- The values of the constants that both programs write as bit patterns. -/
module

public import proofs.«01_k».proof.Proof.Spec
public import Idealize.ShloMosaic.Lib.TotalOrder

@[expose] public section

namespace Cert.Spec

open Idealize.ShloMosaic

/-- The pattern of minus infinity is the least extended real. -/
theorem ofBits_bot : Ideal.ofBits .f32 0xFF800000#32 = ⊥ := by simp [Ideal.ofBits, Ideal.ieee]

/-- The pattern of infinity is the greatest extended real. -/
theorem ofBits_top : Ideal.ofBits .f32 0x7F800000#32 = ⊤ := by simp [Ideal.ofBits, Ideal.ieee]

/-- The number added to lengths is a positive real. -/
theorem eps_real : ∃ r : ℝ, 0 < r ∧ eps = (r : EReal) :=
  ⟨(1 + 2870391 / 2 ^ 23) * 2 ^ (-27 : ℤ), by positivity, by
    simp [eps, Ideal.ofBits, Ideal.ieee, -EReal.coe_mul]; norm_num⟩

/-- The squared radius is a real. -/
theorem radius_real : ∃ r : ℝ, radius = (r : EReal) :=
  ⟨(1 + 2348810 / 2 ^ 23) * 2 ^ (-11 : ℤ), by
    simp [radius, Ideal.ofBits, Ideal.ieee, -EReal.coe_mul]; norm_num⟩

/-- The value that stands in for an unmarked point is negative. -/
theorem low_neg : Ideal.ofBits .f32 0xCE6E6B28#32 ≤ 0 := by
  rw [← Ideal.ofBits_zero_f32]
  exact le_of_lt ((TotalOrder.f32_lt_iff (by decide) (by decide) (by decide)).mp (by decide))

end Cert.Spec

end
-- ==== Proof.DispRead.lean ====
/- The third kernel's result read at an entry. -/
module

public import proofs.«01_k».proof.Proof.Disp
public import proofs.«01_k».proof.Proof.Consts

@[expose] public section

set_option maxRecDepth 16384

noncomputable section

namespace Cert.KernelIdeal.Disp

open Cert.KernelIdeal Cert.KernelIdeal.Gen
open Idealize.ShloMosaic Idealize.ShloMosaic.TcCoe Idealize.SL.Sem

/-- A point's feature about a joint, read at channel `n` and point `p`. -/
theorem feats_apply (pts : FVec Ideal S6x4096 .f32) (wp wn : FVec Ideal S128x3 .f32) (bj : FVec Ideal S128x1 .f32) (rT : FVec Ideal S3x3 .f32) (t : FVec Ideal S3x1 .f32)
    (n : Fin 128) (p : Fin 4096) :
    feats pts wp wn bj rT t (ix2 n p) = Spec.feat (fun k => wp (ix2 n k)) (fun k => wn (ix2 n k)) (bj (ix2 n 0)) (fun d k => rT (ix2 k d)) (fun d => t (ix2 d 0))
      (fun d => pts (ix2 ⟨d.val, by omega⟩ p)) (fun d => pts (ix2 ⟨3 + d.val, by omega⟩ p)) := by
  pointwise [feats, Spec.feat]

theorem dist_apply (pos : FVec Ideal S3x4096 .f32) (t : FVec Ideal S3x1 .f32) (p : Fin 4096) :
    dist pos t (ix2 0 p) = Spec.dist (fun d => pos (ix2 d p)) (fun d => t (ix2 d 0)) := by
  pointwise [dist, Spec.dist]

open Classical in
theorem near_apply (pos : FVec Ideal S3x4096 .f32) (t : FVec Ideal S3x1 .f32) (p : Fin 4096) :
    near pos t (ix2 0 p) = BitVec.ofBool (decide (Spec.dist (fun d => pos (ix2 d p)) (fun d => t (ix2 d 0)) < Spec.radius)) := by
  pointwise [near, dist_apply, Spec.radius]

open Classical in
theorem anyNear_apply (mask : IVec S1x4096 1) (P : Fin 4096 → Prop) (h : ∀ p, mask (ix2 0 p) = BitVec.ofBool (decide (P p))) :
    anyNear (F := Ideal) mask = BitVec.ofBool (decide (∃ p, P p)) := by
  pointwise [anyNear, h]
  refine congrArg BitVec.ofBool (decide_eq_decide.2 ?_)
  rw [Finset.lt_fold_max]
  constructor
  · rintro (h0 | ⟨x, -, hx⟩)
    · exact absurd h0 (by rw [Spec.ofBits_bot]; exact not_lt_bot)
    · by_contra hn
      rw [if_neg fun hp => hn ⟨_, hp⟩] at hx
      exact lt_irrefl _ hx
  · rintro ⟨p, hp⟩
    refine Or.inr ⟨(0, p), Finset.mem_univ _, ?_⟩
    rw [if_pos hp]
    exact zero_lt_one

open Classical in
theorem pooled_apply (hf : FVec Ideal S128x4096 .f32) (mask : IVec S1x4096 1) (P : Fin 4096 → Prop) (h : ∀ p, mask (ix2 0 p) = BitVec.ofBool (decide (P p))) (n : Fin 128) :
    pooled hf mask (ix2 n 0) = Spec.poolOver P (fun p => hf (ix2 n p)) := by
  pointwise [pooled, h, anyNear_apply mask P h, Spec.poolOver]
  split
  · pointwise [h]
  · pointwise

/-- The joint positions' columns. -/
theorem cols_apply (tj : FVec Ideal S3x20 .f32) (n : Fin 20) (k : Fin 3) : cols tj n (ix2 k 0) = tj (ix2 k n) := by
  fin_cases n <;> dsimp [cols] <;> pointwise

/-- The blocks of the stack. -/
theorem blocks_apply (x : Vec Ideal S1x60x3 .f32) (n : Fin 20) (i k : Fin 3) : blocks x n (ix2 i k) = x (ix3 0 ⟨3 * n.val + i.val, by omega⟩ k) := by
  fin_cases n <;> dsimp [blocks] <;> pointwise

open Classical in
/-- One joint's pooled feature. -/
theorem pool_apply (pts : FVec Ideal S6x4096 .f32) (wp wn : FVec Ideal S128x3 .f32) (bj : FVec Ideal S128x1 .f32) (rT : FVec Ideal S3x3 .f32) (t : FVec Ideal S3x1 .f32)
    (n : Fin 128) :
    pool pts wp wn bj rT t (ix2 n 0) = Spec.poolOver (fun p => Spec.dist (fun d => pts (ix2 ⟨d.val, by omega⟩ p)) (fun d => t (ix2 d 0)) < Spec.radius)
      (fun p => Spec.feat (fun k => wp (ix2 n k)) (fun k => wn (ix2 n k)) (bj (ix2 n 0)) (fun d k => rT (ix2 k d)) (fun d => t (ix2 d 0))
        (fun d => pts (ix2 ⟨d.val, by omega⟩ p)) (fun d => pts (ix2 ⟨3 + d.val, by omega⟩ p))) := by
  rw [pool, pooled_apply _ _ (fun p => Spec.dist (fun d => pts (ix2 ⟨d.val, by omega⟩ p)) (fun d => t (ix2 d 0)) < Spec.radius)]
  · simp only [feats_apply]
  · intro p
    rw [near_apply]
    pointwise
    exact congrArg BitVec.ofBool (decide_eq_decide.2 Iff.rfl)

/-- A joint's features, read at feature `m` of joint `n`. -/
theorem features_apply (tj : FVec Ideal S3x20 .f32) (pool : Fin 20 → FVec Ideal S128x1 .f32) (wje : FVec Ideal S128x3 .f32) (bje : FVec Ideal S128x1 .f32) (m : Fin 256) (n : Fin 20) :
    features tj pool wje bje (ix2 m n) = Spec.jointFeat (fun d o => wje (ix2 o d)) (fun o => bje (ix2 o 0)) (fun d => tj (ix2 d n)) (fun o => pool n (ix2 o 0)) m := by
  have hc : ∀ (h) (o : Fin 128), concatenate S128x20 1 (List.ofFn fun n : Fin 20 => (⟨S128x1, pool n⟩ : (s : Shape) × FVec Ideal s .f32)) h (ix2 o n) = pool n (ix2 o 0) := by
    intro h o
    refine concatenate_ofFn_apply (s₁ := S128x1) (t := S128x20) 1 (fun n => pool n) _ rfl 1 rfl _ n ?_ (ix2 o 0) ?_ ?_
    · exact Nat.div_one _
    · show 0 = n.val % 1
      omega
    · intro a ha
      fin_cases a
      · rfl
      · exact absurd rfl ha
  pointwise [features, Spec.jointFeat, hc]

/-- The displacements in the joints' own frames, read at component `i` of joint `n`. -/
theorem local_apply (jf : FVec Ideal S256x20 .f32) (w1 : FVec Ideal S256x256 .f32) (b1 : FVec Ideal S256x1 .f32) (w2 : FVec Ideal S3x256 .f32) (b2 : FVec Ideal S3x1 .f32) (i : Fin 3) (n : Fin 20) :
    local_ jf w1 b1 w2 b2 (ix2 i n) = Spec.localDisp (fun m o => w1 (ix2 o m)) (fun o => b1 (ix2 o 0)) (fun o i => w2 (ix2 i o)) (fun i => b2 (ix2 i 0)) (fun m => jf (ix2 m n)) i := by
  pointwise [local_, Spec.localDisp]

/-- The turned displacements, read at component `i` of joint `n`. -/
theorem turnedAll_apply (u : FVec Ideal S3x20 .f32) (x2 : Vec Ideal S1x60x3 .f32) (i : Fin 3) (n : Fin 20) :
    turnedAll u x2 (ix3 0 i n) = ∑ k : Fin 3, x2 (ix3 0 ⟨3 * n.val + i.val, by omega⟩ k) * u (ix2 k n) := by
  have hc : ∀ (h), concatenate S3x20 1 (List.ofFn fun n : Fin 20 => (⟨S3x1, turned (blocks x2 n) (cols u n)⟩ : (s : Shape) × FVec Ideal s .f32)) h (ix2 i n)
      = turned (blocks x2 n) (cols u n) (ix2 i 0) := by
    intro h
    refine concatenate_ofFn_apply (s₁ := S3x1) (t := S3x20) 1 (fun n => turned (blocks x2 n) (cols u n)) _ rfl 1 rfl _ n ?_ (ix2 i 0) ?_ ?_
    · exact Nat.div_one _
    · show 0 = n.val % 1
      omega
    · intro a ha
      fin_cases a
      · rfl
      · exact absurd rfl ha
  pointwise [turnedAll, hc, turned, blocks_apply, cols_apply]

open Classical in
/-- The displacement of joint `n`, component `i`, as a function of the third kernel's input arrays of batch row `b`. -/
def value (x0 : Fin 6 → Fin 4096 → EReal) (x1 x2 : Fin 60 → Fin 3 → EReal) (x3 : Fin 3 → Fin 20 → EReal) (x4 : Fin 128 → Fin 6 → EReal) (x5 : Fin 128 → EReal)
    (x6 : Fin 128 → Fin 3 → EReal) (x7 : Fin 128 → EReal) (x8 : Fin 256 → Fin 256 → EReal) (x9 : Fin 256 → EReal) (x10 : Fin 3 → Fin 256 → EReal) (x11 : Fin 3 → EReal)
    (i : Fin 3) (n : Fin 20) : EReal :=
  ∑ k : Fin 3, x2 ⟨3 * n.val + i.val, by omega⟩ k * Spec.localDisp (fun m o => x8 o m) x9 (fun o i => x10 i o) x11
    (Spec.jointFeat (fun d o => x6 o d) x7 (fun d => x3 d n) fun o =>
      Spec.poolOver (fun p => Spec.dist (fun d => x0 ⟨d.val, by omega⟩ p) (fun d => x3 d n) < Spec.radius)
        (fun p => Spec.feat (fun k => x4 o ⟨k.val, by omega⟩) (fun k => x4 o ⟨3 + k.val, by omega⟩) (x5 o) (fun d k => x1 ⟨3 * n.val + k.val, by omega⟩ d) (fun d => x3 d n)
          (fun d => x0 ⟨d.val, by omega⟩ p) (fun d => x0 ⟨3 + d.val, by omega⟩ p))) k

/-- The kernel's payload at a block index is `value` over the block's reads. -/
theorem payload_apply (x0 : Vec Ideal S1x6x4096 .f32) (x1 : Vec Ideal S1x60x3 .f32) (x2 : Vec Ideal S1x60x3 .f32) (x3 : Vec Ideal S1x3x20 .f32) (x4 : Vec Ideal S128x6 .f32) (x5 : Vec Ideal S128x1 .f32) (x6 : Vec Ideal S128x3 .f32) (x7 : Vec Ideal S128x1 .f32) (x8 : Vec Ideal S256x256 .f32) (x9 : Vec Ideal S256x1 .f32) (x10 : Vec Ideal S3x256 .f32) (x11 : Vec Ideal S3x1 .f32)
    (i : Fin 3) (n : Fin 20) :
    turnedAll (locals x0 x1 x3 x4 x5 x6 x7 x8 x9 x10 x11) x2 (ix3 0 i n)
    = value (fun d p => x0 (ix3 0 d p)) (fun r k => x1 (ix3 0 r k)) (fun r k => x2 (ix3 0 r k)) (fun d n => x3 (ix3 0 d n)) (fun o k => x4 (ix2 o k)) (fun o => x5 (ix2 o 0))
        (fun o d => x6 (ix2 o d)) (fun o => x7 (ix2 o 0)) (fun o m => x8 (ix2 o m)) (fun o => x9 (ix2 o 0)) (fun i o => x10 (ix2 i o)) (fun i => x11 (ix2 i 0)) i n := by
  rw [turnedAll_apply]
  simp only [locals, local_apply, features_, features_apply, pool_apply, blocks_apply, cols_apply, value]
  pointwise

end Cert.KernelIdeal.Disp

end
-- ==== Proof.DispArray.lean ====
/- The third kernel's result array after its run. -/
module

public import proofs.«01_k».proof.Proof.DispRead

@[expose] public section

set_option maxRecDepth 16384

noncomputable section

namespace Cert.KernelIdeal.Disp

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c.tc : Thread nD τ).loc b))

/-- Which block each window of the third kernel holds at each grid point. -/
theorem idx : ∀ t : Fin cfg2.N, (win2_0.index t = ![t.val, 0, 0] ∧ win2_1.index t = ![t.val, 0, 0] ∧ win2_2.index t = ![t.val, 0, 0]
    ∧ win2_3.index t = ![t.val, 0, 0] ∧ win2_4.index t = ![0, 0] ∧ win2_5.index t = ![0, 0]) ∧ win2_6.index t = ![0, 0]
    ∧ win2_7.index t = ![0, 0] ∧ win2_8.index t = ![0, 0] ∧ win2_9.index t = ![0, 0] ∧ win2_10.index t = ![0, 0] ∧ win2_11.index t = ![0, 0]
    ∧ win2_12.index t = ![t.val, 0, 0] :=
  (by decide +kernel : ∀ t : Fin grid2.N, _)

/-- The displacements array as a function of the third kernel's argument arrays. -/
def array (x0 : FVec Ideal S128x6x4096 .f32) (x1 x2 : FVec Ideal S128x60x3 .f32) (x3 : FVec Ideal S128x3x20 .f32) (x4 : FVec Ideal S128x6 .f32) (x5 : FVec Ideal S128x1 .f32)
    (x6 : FVec Ideal S128x3 .f32) (x7 : FVec Ideal S128x1 .f32) (x8 : FVec Ideal S256x256 .f32) (x9 : FVec Ideal S256x1 .f32) (x10 : FVec Ideal S3x256 .f32) (x11 : FVec Ideal S3x1 .f32) :
    FVec Ideal S128x3x20 .f32 := fun j =>
  value (fun d p => x0 (ix3 (j 0) d p)) (fun r k => x1 (ix3 (j 0) r k)) (fun r k => x2 (ix3 (j 0) r k)) (fun d n => x3 (ix3 (j 0) d n)) (fun o k => x4 (ix2 o k)) (fun o => x5 (ix2 o 0))
        (fun o d => x6 (ix2 o d)) (fun o => x7 (ix2 o 0)) (fun o m => x8 (ix2 o m)) (fun o => x9 (ix2 o 0)) (fun i o => x10 (ix2 i o)) (fun i => x11 (ix2 i 0)) (j 1) (j 2)

/-- A grid point is a batch row. -/
theorem lt128 (t : Fin cfg2.N) : t.val < 128 := lt_of_lt_of_eq t.isLt N_2

/-! The per-row windows' blocks are the arrays' rows; the others' blocks are the whole arrays. -/

theorem read0 (c : Dev nD) (t : Fin cfg2.N) (p : Fin 6) (q : Fin 4096) : iblk2 V c 0 t (ix3 0 p q) = V c main_v22 (ix3 ⟨t.val, lt128 t⟩ p q) := by
  blk_ext [iblk2, idx t]
theorem read1 (c : Dev nD) (t : Fin cfg2.N) (p : Fin 60) (q : Fin 3) : iblk2 V c 1 t (ix3 0 p q) = V c main_v18 (ix3 ⟨t.val, lt128 t⟩ p q) := by
  blk_ext [iblk2, idx t]
theorem read2 (c : Dev nD) (t : Fin cfg2.N) (p : Fin 60) (q : Fin 3) : iblk2 V c 2 t (ix3 0 p q) = V c main_v16 (ix3 ⟨t.val, lt128 t⟩ p q) := by
  blk_ext [iblk2, idx t]
theorem read3 (c : Dev nD) (t : Fin cfg2.N) (p : Fin 3) (q : Fin 20) : iblk2 V c 3 t (ix3 0 p q) = V c main_v20 (ix3 ⟨t.val, lt128 t⟩ p q) := by
  blk_ext [iblk2, idx t]
theorem whole4 (c : Dev nD) (t : Fin cfg2.N) : iblk2 V c 4 t = V c main_v23 := by blk_ext! [iblk2, idx t]
theorem whole5 (c : Dev nD) (t : Fin cfg2.N) : iblk2 V c 5 t = V c main_v24 := by blk_ext! [iblk2, idx t]
theorem whole6 (c : Dev nD) (t : Fin cfg2.N) : iblk2 V c 6 t = V c main_v25 := by blk_ext! [iblk2, idx t]
theorem whole7 (c : Dev nD) (t : Fin cfg2.N) : iblk2 V c 7 t = V c main_v26 := by blk_ext! [iblk2, idx t]
theorem whole8 (c : Dev nD) (t : Fin cfg2.N) : iblk2 V c 8 t = V c main_v27 := by blk_ext! [iblk2, idx t]
theorem whole9 (c : Dev nD) (t : Fin cfg2.N) : iblk2 V c 9 t = V c main_v28 := by blk_ext! [iblk2, idx t]
theorem whole10 (c : Dev nD) (t : Fin cfg2.N) : iblk2 V c 10 t = V c main_v29 := by blk_ext! [iblk2, idx t]
theorem whole11 (c : Dev nD) (t : Fin cfg2.N) : iblk2 V c 11 t = V c main_v30 := by blk_ext! [iblk2, idx t]

/-- The place of a block index in the result array. -/
theorem place (t : Fin cfg2.N) (i : Fin 3) (n : Fin 20) : ((cfg2.win 12).blk t).view.emb (ix3 0 i n) = ix3 ⟨t.val, lt128 t⟩ i n := by
  blk_ext [idx t]

/-- The payload at a block index is the array's entry at the block's place. -/
theorem point (c : Dev nD) (t : Fin cfg2.N) (y : S1x3x20.Idx) :
    turnedAll (locals (iblk2 V c 0 t) (iblk2 V c 1 t) (iblk2 V c 3 t) (iblk2 V c 4 t) (iblk2 V c 5 t) (iblk2 V c 6 t) (iblk2 V c 7 t) (iblk2 V c 8 t) (iblk2 V c 9 t) (iblk2 V c 10 t) (iblk2 V c 11 t)) (iblk2 V c 2 t) y
    = array (V c main_v22) (V c main_v18) (V c main_v16) (V c main_v20) (V c main_v23) (V c main_v24) (V c main_v25) (V c main_v26) (V c main_v27) (V c main_v28) (V c main_v29) (V c main_v30)
        (((cfg2.win 12).blk t).view.emb y) := by
  idx_vars y
  obtain rfl : y0 = 0 := Subsingleton.elim _ _
  refine (payload_apply _ _ _ _ _ _ _ _ _ _ _ _ y1 y2).trans ?_
  rw [place]
  simp only [read0, read1, read2, read3, whole4, whole5, whole6, whole7, whole8, whole9, whole10, whole11]
  rfl

/-- The third kernel's result array after its run. -/
theorem final (c : Dev nD) : (dat2 V c).arrAt 12 cfg2.N
    = array (V c main_v22) (V c main_v18) (V c main_v16) (V c main_v20) (V c main_v23) (V c main_v24) (V c main_v25) (V c main_v26) (V c main_v27) (V c main_v28) (V c main_v29) (V c main_v30) := by
  refine (dat2 V c).arrAt_eq_of_covers 12 _ (by decide +kernel) fun t _ y => ?_
  blk_simp
  rw [after2_12, out_eq]
  frame_out
  exact point V c t y

end Cert.KernelIdeal.Disp

end
-- ==== Proof.HostRead.lean ====
/- What the host operations between the three kernels write, as functions of what they read. -/
module

public import proofs.«01_k».proof.Proof.Gen.KernelIdeal.Frame
public import Idealize.ShloMosaic.Lib.Pipeline.ValueKit

@[expose] public section

set_option maxRecDepth 16384

noncomputable section

namespace Cert.KernelIdeal.HostRead

open Cert.KernelIdeal Cert.KernelIdeal.Gen
open Idealize.ShloMosaic Idealize.ShloMosaic.TcCoe Idealize.SL.Sem

variable (U : Valuation τ sig (Elt Ideal))

/-! Before the first kernel. -/

theorem v0 (X : FVec Ideal S8x16x1024x6 .f32) (h : U (Proc.devRef .tc main_arg1) = X) : StableHlo.after hostOps0 U (Proc.devRef .tc main_v0)
    = (shapeCast S128x1024x6 X shapeCasts_S8x16x1024x6_S128x1024x6 : FVec Ideal S128x1024x6 .f32) := by
  subst h; after_results_simp; try rfl

theorem v1 (X : FVec Ideal S128 .f32) (h : U (Proc.devRef .tc main_arg5) = X) : StableHlo.after hostOps0 U (Proc.devRef .tc main_v1)
    = (shapeCast S1x128 X shapeCasts_S128_S1x128 : FVec Ideal S1x128 .f32) := by
  subst h; after_results_simp; try rfl

/-! Between the first and the second kernel. -/

theorem v3 (X : FVec Ideal S128x1x128 .f32) (h : U (Proc.devRef .tc main_v2) = X) : StableHlo.after hostOps1 U (Proc.devRef .tc main_v3)
    = (shapeCast S128x128 X shapeCasts_S128x1x128_S128x128 : FVec Ideal S128x128 .f32) := by
  subst h; after_results_simp; try rfl

theorem v9 (X : FVec Ideal S1x21x3 .f32) (h : U (Proc.devRef .tc main_arg3) = X) : StableHlo.after hostOps1 U (Proc.devRef .tc main_v9)
    = (subf (shapeCast S20x3 (extractStridedSlice S1x20x3 ![0, 1, 0] X slices_S1x21x3_S1x20x3_0_1_0) shapeCasts_S1x20x3_S20x3)
      (broadcastInDim S20x3 ![0, 1] bcast_S1x3_S20x3_0_1 (shapeCast S1x3 (extractStridedSlice S1x1x3 ![0, 0, 0] X slices_S1x21x3_S1x1x3_0_0_0) shapeCasts_S1x1x3_S1x3)) : FVec Ideal S20x3 .f32) := by
  subst h; after_results_simp; try rfl

theorem v10 (X : FVec Ideal S8x16x12 .f32) (h : U (Proc.devRef .tc main_arg0) = X) : StableHlo.after hostOps1 U (Proc.devRef .tc main_v10)
    = (shapeCast S128x12 X shapeCasts_S8x16x12_S128x12 : FVec Ideal S128x12 .f32) := by
  subst h; after_results_simp; try rfl

theorem v11 (X : FVec Ideal S256 .f32) (h : U (Proc.devRef .tc main_arg7) = X) : StableHlo.after hostOps1 U (Proc.devRef .tc main_v11)
    = (shapeCast S1x256 X shapeCasts_S256_S1x256 : FVec Ideal S1x256 .f32) := by
  subst h; after_results_simp; try rfl

theorem v12 (X : FVec Ideal S512 .f32) (h : U (Proc.devRef .tc main_arg9) = X) : StableHlo.after hostOps1 U (Proc.devRef .tc main_v12)
    = (shapeCast S1x512 X shapeCasts_S512_S1x512 : FVec Ideal S1x512 .f32) := by
  subst h; after_results_simp; try rfl

theorem v13 (X : FVec Ideal S60 .f32) (h : U (Proc.devRef .tc main_arg11) = X) : StableHlo.after hostOps1 U (Proc.devRef .tc main_v13)
    = (shapeCast S1x60 X shapeCasts_S60_S1x60 : FVec Ideal S1x60 .f32) := by
  subst h; after_results_simp; try rfl

/-! Between the second and the third kernel. -/

theorem v16 (X : FVec Ideal S128x180 .f32) (h : U (Proc.devRef .tc main_v14_1) = X) : StableHlo.after hostOps2 U (Proc.devRef .tc main_v16)
    = (shapeCast S128x60x3 (shapeCast S128x20x3x3 X shapeCasts_S128x180_S128x20x3x3) shapeCasts_S128x20x3x3_S128x60x3 : FVec Ideal S128x60x3 .f32) := by
  subst h; after_results_simp; try rfl

theorem v18 (X : FVec Ideal S128x180 .f32) (h : U (Proc.devRef .tc main_v14_1) = X) : StableHlo.after hostOps2 U (Proc.devRef .tc main_v18)
    = (shapeCast S128x60x3 (transpose S128x20x3x3 [0, 1, 3, 2] (shapeCast S128x20x3x3 X shapeCasts_S128x180_S128x20x3x3) transposes_S128x20x3x3_S128x20x3x3_0_1_3_2) shapeCasts_S128x20x3x3_S128x60x3 : FVec Ideal S128x60x3 .f32) := by
  subst h; after_results_simp; try rfl

theorem v20 (X : FVec Ideal S128x60 .f32) (h : U (Proc.devRef .tc main_v14_0) = X) : StableHlo.after hostOps2 U (Proc.devRef .tc main_v20)
    = (transpose S128x3x20 [0, 2, 1] (shapeCast S128x20x3 X shapeCasts_S128x60_S128x20x3) transposes_S128x20x3_S128x3x20_0_2_1 : FVec Ideal S128x3x20 .f32) := by
  subst h; after_results_simp; try rfl

theorem v22 (X : FVec Ideal S8x16x4096x6 .f32) (h : U (Proc.devRef .tc main_arg2) = X) : StableHlo.after hostOps2 U (Proc.devRef .tc main_v22)
    = (transpose S128x6x4096 [0, 2, 1] (shapeCast S128x4096x6 X shapeCasts_S8x16x4096x6_S128x4096x6) transposes_S128x4096x6_S128x6x4096_0_2_1 : FVec Ideal S128x6x4096 .f32) := by
  subst h; after_results_simp; try rfl

theorem v23 (X : FVec Ideal S6x128 .f32) (h : U (Proc.devRef .tc main_arg14) = X) : StableHlo.after hostOps2 U (Proc.devRef .tc main_v23)
    = (transpose S128x6 [1, 0] X transposes_S6x128_S128x6_1_0 : FVec Ideal S128x6 .f32) := by
  subst h; after_results_simp; try rfl

theorem v24 (X : FVec Ideal S128 .f32) (h : U (Proc.devRef .tc main_arg15) = X) : StableHlo.after hostOps2 U (Proc.devRef .tc main_v24)
    = (shapeCast S128x1 X shapeCasts_S128_S128x1 : FVec Ideal S128x1 .f32) := by
  subst h; after_results_simp; try rfl

theorem v25 (X : FVec Ideal S3x128 .f32) (h : U (Proc.devRef .tc main_arg12) = X) : StableHlo.after hostOps2 U (Proc.devRef .tc main_v25)
    = (transpose S128x3 [1, 0] X transposes_S3x128_S128x3_1_0 : FVec Ideal S128x3 .f32) := by
  subst h; after_results_simp; try rfl

theorem v26 (X : FVec Ideal S128 .f32) (h : U (Proc.devRef .tc main_arg13) = X) : StableHlo.after hostOps2 U (Proc.devRef .tc main_v26)
    = (shapeCast S128x1 X shapeCasts_S128_S128x1 : FVec Ideal S128x1 .f32) := by
  subst h; after_results_simp; try rfl

theorem v27 (X : FVec Ideal S256x256 .f32) (h : U (Proc.devRef .tc main_arg16) = X) : StableHlo.after hostOps2 U (Proc.devRef .tc main_v27)
    = (transpose S256x256 [1, 0] X transposes_S256x256_S256x256_1_0 : FVec Ideal S256x256 .f32) := by
  subst h; after_results_simp; try rfl

theorem v28 (X : FVec Ideal S256 .f32) (h : U (Proc.devRef .tc main_arg17) = X) : StableHlo.after hostOps2 U (Proc.devRef .tc main_v28)
    = (shapeCast S256x1 X shapeCasts_S256_S256x1 : FVec Ideal S256x1 .f32) := by
  subst h; after_results_simp; try rfl

theorem v29 (X : FVec Ideal S256x3 .f32) (h : U (Proc.devRef .tc main_arg18) = X) : StableHlo.after hostOps2 U (Proc.devRef .tc main_v29)
    = (transpose S3x256 [1, 0] X transposes_S256x3_S3x256_1_0 : FVec Ideal S3x256 .f32) := by
  subst h; after_results_simp; try rfl

theorem v30 (X : FVec Ideal S3 .f32) (h : U (Proc.devRef .tc main_arg19) = X) : StableHlo.after hostOps2 U (Proc.devRef .tc main_v30)
    = (shapeCast S3x1 X shapeCasts_S3_S3x1 : FVec Ideal S3x1 .f32) := by
  subst h; after_results_simp; try rfl

/-! After the third kernel. -/

theorem v32 (X : FVec Ideal S128x60 .f32) (h : U (Proc.devRef .tc main_v14_0) = X) : StableHlo.after hostOps3 U (Proc.devRef .tc main_v32)
    = (shapeCast S8x16x20x3 X shapeCasts_S128x60_S8x16x20x3 : FVec Ideal S8x16x20x3 .f32) := by
  subst h; after_results_simp; try rfl

theorem v34 (X : FVec Ideal S128x3x20 .f32) (h : U (Proc.devRef .tc main_v31) = X) : StableHlo.after hostOps3 U (Proc.devRef .tc main_v34)
    = (shapeCast S8x16x20x3 (transpose S128x20x3 [0, 2, 1] X transposes_S128x3x20_S128x20x3_0_2_1) shapeCasts_S128x20x3_S8x16x20x3 : FVec Ideal S8x16x20x3 .f32) := by
  subst h; after_results_simp; try rfl

end Cert.KernelIdeal.HostRead

end
-- ==== Proof.KernelValue.lean ====
/- The kernel's two results after its run, as functions of its argument arrays. -/
module

public import proofs.«01_k».proof.Proof.Pool
public import proofs.«01_k».proof.Proof.Joints
public import proofs.«01_k».proof.Proof.RotRead
public import proofs.«01_k».proof.Proof.DispArray
public import proofs.«01_k».proof.Proof.HostRead

@[expose] public section

set_option maxRecDepth 16384

noncomputable section

namespace Cert.KernelIdeal.KernelValue

open Cert.KernelIdeal Cert.KernelIdeal.Gen
open Idealize.ShloMosaic Idealize.ShloMosaic.TcCoe Idealize.SL.Sem

/-- The kernel's joints, one row of sixty numbers for each batch row, from its argument arrays. -/
def joints (A0 : FVec Ideal S8x16x12 .f32) (A1 : FVec Ideal S8x16x1024x6 .f32) (A4 : FVec Ideal S6x128 .f32) (A5 : FVec Ideal S128 .f32)
    (A6 : FVec Ideal S128x256 .f32) (A7 : FVec Ideal S256 .f32) (A8 : FVec Ideal S268x512 .f32) (A9 : FVec Ideal S512 .f32) (A10 : FVec Ideal S512x60 .f32) (A11 : FVec Ideal S60 .f32) :
    FVec Ideal S128x60 .f32 :=
  k1_pay1 (F := Ideal) (shapeCast S128x128 (Pool.poolOf (shapeCast S128x1024x6 A1 shapeCasts_S8x16x1024x6_S128x1024x6) A4 (shapeCast S1x128 A5 shapeCasts_S128_S1x128)) shapeCasts_S128x1x128_S128x128)
    A6 (shapeCast S1x256 A7 shapeCasts_S256_S1x256) (shapeCast S128x12 A0 shapeCasts_S8x16x12_S128x12) A8 (shapeCast S1x512 A9 shapeCasts_S512_S1x512) A10 (shapeCast S1x60 A11 shapeCasts_S60_S1x60)

/-- The template's joints relative to its first. -/
def template (A3 : FVec Ideal S1x21x3 .f32) : FVec Ideal S20x3 .f32 :=
  subf (shapeCast S20x3 (extractStridedSlice S1x20x3 ![0, 1, 0] A3 slices_S1x21x3_S1x20x3_0_1_0) shapeCasts_S1x20x3_S20x3)
      (broadcastInDim S20x3 ![0, 1] bcast_S1x3_S20x3_0_1 (shapeCast S1x3 (extractStridedSlice S1x1x3 ![0, 0, 0] A3 slices_S1x21x3_S1x1x3_0_0_0) shapeCasts_S1x1x3_S1x3))

variable (m : (ℓ : Loc nD τ sig) → Buf (Elt Ideal) ℓ) (ρ : Dev nD → PrngReg) (c : Dev nD)

/-- The pooled features when the second kernel starts. -/
theorem pooled_at : V3 m ρ c main_v3 = (shapeCast S128x128 (Pool.poolOf (shapeCast S128x1024x6 (m ((c : Thread nD τ).loc main_arg1)) shapeCasts_S8x16x1024x6_S128x1024x6) (m ((c : Thread nD τ).loc main_arg4))
    (shapeCast S1x128 (m ((c : Thread nD τ).loc main_arg5)) shapeCasts_S128_S1x128)) shapeCasts_S128x1x128_S128x128 : FVec Ideal S128x128 .f32) := by
  refine HostRead.v3 _ _ ((W2_arr m ρ c 3).trans ((Pool.final (V1 m ρ) c).trans ?_))
  rw [show V1 m ρ c main_v0 = _ from HostRead.v0 _ _ rfl, show V1 m ρ c main_v1 = _ from HostRead.v1 _ _ rfl, show V1 m ρ c main_arg4 = _ from W1_args m ρ c main_arg4 (by decide)]

/-- The joints' formula, at the second kernel's operands, is `joints` of the arguments. -/
theorem joints_at : k1_pay1 (F := Ideal) (V3 m ρ c main_v3) (V3 m ρ c main_arg6) (V3 m ρ c main_v11) (V3 m ρ c main_v10) (V3 m ρ c main_arg8) (V3 m ρ c main_v12) (V3 m ρ c main_arg10) (V3 m ρ c main_v13)
    = (joints (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [pooled_at m ρ c, show V3 m ρ c main_v11 = _ from HostRead.v11 _ _ (W2_args m ρ c main_arg7 (by decide)), show V3 m ρ c main_v10 = _ from HostRead.v10 _ _ (W2_args m ρ c main_arg0 (by decide)),
    show V3 m ρ c main_v12 = _ from HostRead.v12 _ _ (W2_args m ρ c main_arg9 (by decide)), show V3 m ρ c main_v13 = _ from HostRead.v13 _ _ (W2_args m ρ c main_arg11 (by decide)),
    show V3 m ρ c main_arg6 = _ from W3_args m ρ c main_arg6 (by decide), show V3 m ρ c main_arg8 = _ from W3_args m ρ c main_arg8 (by decide),
    show V3 m ρ c main_arg10 = _ from W3_args m ρ c main_arg10 (by decide)]
  rfl

/-- The joints after the second kernel. -/
theorem joints_after : W4 m ρ c (Proc.devRef .tc main_v14_0) = (joints (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W4_arr m ρ c 9).trans ((Joints.joints_final (V3 m ρ) c).trans (joints_at m ρ c))

/-- The packed rotations after the second kernel. -/
theorem packed_after : W4 m ρ c (Proc.devRef .tc main_v14_1) = Rot.packed (joints (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (template (m ((c : Thread nD τ).loc main_arg3))) := by
  refine (W4_arr m ρ c 10).trans ((Joints.packed_final (V3 m ρ) c).trans ?_)
  rw [joints_at m ρ c, show V3 m ρ c main_v9 = _ from HostRead.v9 _ _ (W2_args m ρ c main_arg3 (by decide))]
  rfl

/-- The first result. -/
theorem result1 : W7 m ρ c (Proc.devRef .tc main_v32) = (shapeCast S8x16x20x3 (joints (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) shapeCasts_S128x60_S8x16x20x3 : FVec Ideal S8x16x20x3 .f32) :=
  HostRead.v32 _ _ ((W6_of_ne m ρ c main_v14_0 (by decide)).trans ((W5_of m ρ c main_v14_0 (by decide)).trans (joints_after m ρ c)))

/-- The displacements, one row for each component and one column for each joint, from the arguments, the joints `j20` and the template `dt`. -/
def disps (A2 : FVec Ideal S8x16x4096x6 .f32) (A12 : FVec Ideal S3x128 .f32) (A13 : FVec Ideal S128 .f32) (A14 : FVec Ideal S6x128 .f32) (A15 : FVec Ideal S128 .f32) (A16 : FVec Ideal S256x256 .f32)
    (A17 : FVec Ideal S256 .f32) (A18 : FVec Ideal S256x3 .f32) (A19 : FVec Ideal S3 .f32) (j20 : FVec Ideal S128x60 .f32) (dt : FVec Ideal S20x3 .f32) : FVec Ideal S128x3x20 .f32 :=
  Disp.array (transpose S128x6x4096 [0, 2, 1] (shapeCast S128x4096x6 A2 shapeCasts_S8x16x4096x6_S128x4096x6) transposes_S128x4096x6_S128x6x4096_0_2_1)
    (shapeCast S128x60x3 (transpose S128x20x3x3 [0, 1, 3, 2] (shapeCast S128x20x3x3 (Rot.packed j20 dt) shapeCasts_S128x180_S128x20x3x3) transposes_S128x20x3x3_S128x20x3x3_0_1_3_2) shapeCasts_S128x20x3x3_S128x60x3)
    (shapeCast S128x60x3 (shapeCast S128x20x3x3 (Rot.packed j20 dt) shapeCasts_S128x180_S128x20x3x3) shapeCasts_S128x20x3x3_S128x60x3)
    (transpose S128x3x20 [0, 2, 1] (shapeCast S128x20x3 j20 shapeCasts_S128x60_S128x20x3) transposes_S128x20x3_S128x3x20_0_2_1)
    (transpose S128x6 [1, 0] A14 transposes_S6x128_S128x6_1_0) (shapeCast S128x1 A15 shapeCasts_S128_S128x1)
    (transpose S128x3 [1, 0] A12 transposes_S3x128_S128x3_1_0) (shapeCast S128x1 A13 shapeCasts_S128_S128x1)
    (transpose S256x256 [1, 0] A16 transposes_S256x256_S256x256_1_0) (shapeCast S256x1 A17 shapeCasts_S256_S256x1)
    (transpose S3x256 [1, 0] A18 transposes_S256x3_S3x256_1_0) (shapeCast S3x1 A19 shapeCasts_S3_S3x1)

/-- The second result. -/
theorem result2 : W7 m ρ c (Proc.devRef .tc main_v34) = (shapeCast S8x16x20x3 (transpose S128x20x3 [0, 2, 1]
    (disps (m ((c : Thread nD τ).loc main_arg2)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (joints (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (template (m ((c : Thread nD τ).loc main_arg3)))) transposes_S128x3x20_S128x20x3_0_2_1) shapeCasts_S128x20x3_S8x16x20x3 : FVec Ideal S8x16x20x3 .f32) := by
  refine HostRead.v34 _ _ ((W6_arr m ρ c 12).trans ((Disp.final (V5 m ρ) c).trans ?_))
  rw [show V5 m ρ c main_v22 = _ from HostRead.v22 _ _ (W4_args m ρ c main_arg2 (by decide)),
    show V5 m ρ c main_v18 = _ from HostRead.v18 _ _ (packed_after m ρ c), show V5 m ρ c main_v16 = _ from HostRead.v16 _ _ (packed_after m ρ c),
    show V5 m ρ c main_v20 = _ from HostRead.v20 _ _ (joints_after m ρ c),
    show V5 m ρ c main_v23 = _ from HostRead.v23 _ _ (W4_args m ρ c main_arg14 (by decide)), show V5 m ρ c main_v24 = _ from HostRead.v24 _ _ (W4_args m ρ c main_arg15 (by decide)), show V5 m ρ c main_v25 = _ from HostRead.v25 _ _ (W4_args m ρ c main_arg12 (by decide)), show V5 m ρ c main_v26 = _ from HostRead.v26 _ _ (W4_args m ρ c main_arg13 (by decide)), show V5 m ρ c main_v27 = _ from HostRead.v27 _ _ (W4_args m ρ c main_arg16 (by decide)), show V5 m ρ c main_v28 = _ from HostRead.v28 _ _ (W4_args m ρ c main_arg17 (by decide)), show V5 m ρ c main_v29 = _ from HostRead.v29 _ _ (W4_args m ρ c main_arg18 (by decide)), show V5 m ρ c main_v30 = _ from HostRead.v30 _ _ (W4_args m ρ c main_arg19 (by decide))]
  rfl

/-- A displacement in scalars. -/
theorem disps_apply (A2 : FVec Ideal S8x16x4096x6 .f32) (A12 : FVec Ideal S3x128 .f32) (A13 : FVec Ideal S128 .f32) (A14 : FVec Ideal S6x128 .f32) (A15 : FVec Ideal S128 .f32) (A16 : FVec Ideal S256x256 .f32)
    (A17 : FVec Ideal S256 .f32) (A18 : FVec Ideal S256x3 .f32) (A19 : FVec Ideal S3 .f32) (j20 : FVec Ideal S128x60 .f32) (dt : FVec Ideal S20x3 .f32) (b : Fin 128) (i : Fin 3) (n : Fin 20) :
    disps A2 A12 A13 A14 A15 A16 A17 A18 A19 j20 dt (ix3 b i n)
    = Spec.jointDisp (fun d o => A12 (ix2 d o)) (fun o => A13 (ix1 o)) (fun k o => A14 (ix2 k o)) (fun o => A15 (ix1 o)) (fun x o => A16 (ix2 x o)) (fun o => A17 (ix1 o)) (fun o i => A18 (ix2 o i)) (fun i => A19 (ix1 i))
        (fun k => dt (ix2 n k)) (fun k => j20 (ix2 b ⟨3 * n.val + k.val, by omega⟩))
        (fun p d => A2 (ix4 ⟨b.val / 16, by omega⟩ ⟨b.val % 16, by omega⟩ p ⟨d.val, by omega⟩)) (fun p d => A2 (ix4 ⟨b.val / 16, by omega⟩ ⟨b.val % 16, by omega⟩ p ⟨3 + d.val, by omega⟩)) i := by
  have e0 : ∀ (d : Fin 6) (p : Fin 4096), transpose S128x6x4096 [0, 2, 1] (shapeCast S128x4096x6 A2 shapeCasts_S8x16x4096x6_S128x4096x6) transposes_S128x4096x6_S128x6x4096_0_2_1 (ix3 b d p)
      = A2 (ix4 ⟨b.val / 16, by omega⟩ ⟨b.val % 16, by omega⟩ p d) := by intro d p; pointwise
  have e1 : ∀ (k d : Fin 3), shapeCast S128x60x3 (transpose S128x20x3x3 [0, 1, 3, 2] (shapeCast S128x20x3x3 (Rot.packed j20 dt) shapeCasts_S128x180_S128x20x3x3) transposes_S128x20x3x3_S128x20x3x3_0_1_3_2) shapeCasts_S128x20x3x3_S128x60x3 (ix3 b ⟨3 * n.val + k.val, by omega⟩ d)
      = Rot.packed j20 dt (ix2 b ⟨9 * n.val + (3 * d.val + k.val), by omega⟩) := by
    intro k d; pointwise; exact congrArg (fun q => Rot.packed j20 dt (ix2 b q)) (Fin.ext (by dsimp only; omega))
  have e2 : ∀ (k d : Fin 3), shapeCast S128x60x3 (shapeCast S128x20x3x3 (Rot.packed j20 dt) shapeCasts_S128x180_S128x20x3x3) shapeCasts_S128x20x3x3_S128x60x3 (ix3 b ⟨3 * n.val + k.val, by omega⟩ d)
      = Rot.packed j20 dt (ix2 b ⟨9 * n.val + (3 * k.val + d.val), by omega⟩) := by
    intro k d; pointwise; exact congrArg (fun q => Rot.packed j20 dt (ix2 b q)) (Fin.ext (by dsimp only; omega))
  have e3 : ∀ (k : Fin 3), transpose S128x3x20 [0, 2, 1] (shapeCast S128x20x3 j20 shapeCasts_S128x60_S128x20x3) transposes_S128x20x3_S128x3x20_0_2_1 (ix3 b k n)
      = j20 (ix2 b ⟨3 * n.val + k.val, by omega⟩) := by
    intro k; pointwise; exact congrArg (fun q => j20 (ix2 b q)) (Fin.ext (by dsimp only; omega))
  have e4 : ∀ k o, transpose S128x6 [1, 0] A14 transposes_S6x128_S128x6_1_0 (ix2 o k) = A14 (ix2 k o) := by intro k o; pointwise
  have e5 : ∀ o, shapeCast S128x1 A15 shapeCasts_S128_S128x1 (ix2 o 0) = A15 (ix1 o) := by intro o; pointwise
  have e6 : ∀ k o, transpose S128x3 [1, 0] A12 transposes_S3x128_S128x3_1_0 (ix2 o k) = A12 (ix2 k o) := by intro k o; pointwise
  have e7 : ∀ o, shapeCast S128x1 A13 shapeCasts_S128_S128x1 (ix2 o 0) = A13 (ix1 o) := by intro o; pointwise
  have e8 : ∀ k o, transpose S256x256 [1, 0] A16 transposes_S256x256_S256x256_1_0 (ix2 o k) = A16 (ix2 k o) := by intro k o; pointwise
  have e9 : ∀ o, shapeCast S256x1 A17 shapeCasts_S256_S256x1 (ix2 o 0) = A17 (ix1 o) := by intro o; pointwise
  have e10 : ∀ k o, transpose S3x256 [1, 0] A18 transposes_S256x3_S3x256_1_0 (ix2 o k) = A18 (ix2 k o) := by intro k o; pointwise
  have e11 : ∀ o, shapeCast S3x1 A19 shapeCasts_S3_S3x1 (ix2 o 0) = A19 (ix1 o) := by intro o; pointwise
  unfold disps Disp.array
  simp only [e0, e3, e4, e5, e6, e7, e8, e9, e10, e11, Disp.value, Spec.jointDisp]
  simp only [ix3_0, ix3_1, ix3_2, e0, e1, e2, e3, Rot.packed_apply]

end Cert.KernelIdeal.KernelValue

end
-- ==== Proof.RotMath.lean ====
/- The rotation's entries are real, and they are the identity plus the axis matrix plus its weighted square. -/
module

public import proofs.«01_k».proof.Proof.Consts

@[expose] public section

noncomputable section

namespace Cert.Spec

open Idealize.ShloMosaic

/-- A number is real. -/
def Real' (x : EReal) : Prop := ∃ r : ℝ, x = (r : EReal)

theorem real_add {x y : EReal} : Real' x → Real' y → Real' (x + y) := by
  rintro ⟨a, rfl⟩ ⟨b, rfl⟩; exact ⟨a + b, by push_cast; rfl⟩

theorem real_sub {x y : EReal} : Real' x → Real' y → Real' (x - y) := by
  rintro ⟨a, rfl⟩ ⟨b, rfl⟩; exact ⟨a - b, by push_cast; rfl⟩

theorem real_mul {x y : EReal} : Real' x → Real' y → Real' (x * y) := by
  rintro ⟨a, rfl⟩ ⟨b, rfl⟩; exact ⟨a * b, by push_cast; rfl⟩

theorem real_zero : Real' 0 := ⟨0, rfl⟩

theorem real_one : Real' 1 := ⟨1, rfl⟩

/-- A quotient of a real by a positive real. -/
theorem div_real (a b : ℝ) (hb : 0 < b) : Ideal.div (a : EReal) (b : EReal) = ((a / b : ℝ) : EReal) := by
  have h : (b : EReal) ≠ 0 := by exact_mod_cast hb.ne'
  simp only [Ideal.div, if_neg h]
  rw [← EReal.coe_inv, ← EReal.coe_mul, div_eq_mul_inv]

/-- A quotient by infinity. -/
theorem div_top (x : EReal) : Ideal.div x ⊤ = 0 := by
  simp [Ideal.div]

/-- The square of an infinite number. -/
theorem sq_top {x : EReal} (h : ¬ Real' x) : x * x = ⊤ := by
  induction x with
  | bot => rfl
  | top => rfl
  | coe r => exact absurd ⟨r, rfl⟩ h

theorem sq_nonneg' (x : EReal) : 0 ≤ x * x := by
  by_cases h : Real' x
  · obtain ⟨r, rfl⟩ := h
    exact_mod_cast mul_self_nonneg r
  · rw [sq_top h]; exact le_top

/-- A direction is real whatever the vector is. -/
theorem dir_real (v : Fin 3 → EReal) (k : Fin 3) : Real' (dir v k) := by
  obtain ⟨e, he, hE⟩ := eps_real
  by_cases h : ∀ j, Real' (v j)
  · choose r hr using h
    have hl : len v = ((Real.sqrt (∑ j, r j * r j) : ℝ) : EReal) := by
      have hs : (∑ j, v j * v j) = ((∑ j, r j * r j : ℝ) : EReal) := by
        simp only [hr, Fin.sum_univ_three]; push_cast; rfl
      have h0 : (0 : ℝ) ≤ ∑ j, r j * r j := Finset.sum_nonneg fun j _ => mul_self_nonneg _
      rw [len, hs]
      show (if (∑ j, r j * r j) < 0 then (⊥ : EReal) else ((Real.sqrt (∑ j, r j * r j) : ℝ) : EReal)) = _
      rw [if_neg (not_lt.2 h0)]
    rw [dir, hl, hE, ← EReal.coe_add, hr k, div_real _ _ (by positivity)]
    exact ⟨_, rfl⟩
  · push Not at h
    obtain ⟨j, hj⟩ := h
    have hs : (∑ j, v j * v j) = ⊤ := by
      have : v j * v j ≤ ∑ j, v j * v j := Finset.single_le_sum (f := fun j => v j * v j) (fun i _ => sq_nonneg' _) (Finset.mem_univ j)
      rw [sq_top hj] at this
      exact top_le_iff.1 this
    have hl : len v + eps = ⊤ := by
      rw [len, hs, hE]; exact EReal.top_add_coe e
    rw [dir, hl, div_top]
    exact real_zero

/-- The matrix of the cross product by `v`. -/
def skew (v : Fin 3 → EReal) : Fin 3 → Fin 3 → EReal := ![![0, -v 2, v 1], ![v 2, 0, -v 0], ![-v 1, v 0, 0]]

/-- The weight of two real vectors is real. -/
theorem weight_real (a b : Fin 3 → EReal) (ha : ∀ k, Real' (a k)) (hb : ∀ k, Real' (b k)) : Real' (weight a b) := by
  obtain ⟨e, he, hE⟩ := eps_real
  choose x hx using ha
  choose y hy using hb
  have h1 : (1 - (a 0 * b 0 + a 1 * b 1 + a 2 * b 2) : EReal) = ((1 - (x 0 * y 0 + x 1 * y 1 + x 2 * y 2) : ℝ) : EReal) := by
    simp only [hx, hy]; push_cast; rfl
  have h2 : sq (cross a b) + eps = (((x 1 * y 2 - x 2 * y 1) * (x 1 * y 2 - x 2 * y 1) + (x 2 * y 0 - x 0 * y 2) * (x 2 * y 0 - x 0 * y 2)
      + (x 0 * y 1 - x 1 * y 0) * (x 0 * y 1 - x 1 * y 0) + e : ℝ) : EReal) := by
    simp [sq, cross, hx, hy, hE]
  rw [weight, h1, h2, div_real _ _ (by nlinarith [mul_self_nonneg (x 1 * y 2 - x 2 * y 1), mul_self_nonneg (x 2 * y 0 - x 0 * y 2), mul_self_nonneg (x 0 * y 1 - x 1 * y 0)])]
  exact ⟨_, rfl⟩

theorem cross_real (a b : Fin 3 → EReal) (ha : ∀ k, Real' (a k)) (hb : ∀ k, Real' (b k)) (k : Fin 3) : Real' (cross a b k) := by
  fin_cases k
  · exact real_sub (real_mul (ha 1) (hb 2)) (real_mul (ha 2) (hb 1))
  · exact real_sub (real_mul (ha 2) (hb 0)) (real_mul (ha 0) (hb 2))
  · exact real_sub (real_mul (ha 0) (hb 1)) (real_mul (ha 1) (hb 0))

/-- The entries over a real axis and a real weight are the identity plus the axis matrix plus its weighted square. -/
theorem entry_eq (v : Fin 3 → EReal) (f : EReal) (hv : ∀ k, Real' (v k)) (hf : Real' f) (i k : Fin 3) :
    ((if i = k then 1 else 0) + skew v i k) + (∑ j, skew v i j * skew v j k) * f = entry v (sq v) f i k := by
  choose x hx using hv
  obtain ⟨g, rfl⟩ := hf
  have e : v = fun k => (x k : EReal) := funext hx
  subst e
  fin_cases i <;> fin_cases k <;> simp [skew, entry, sq, Fin.sum_univ_three] <;> norm_cast <;> ring

theorem entry_real (v : Fin 3 → EReal) (f : EReal) (hv : ∀ k, Real' (v k)) (hf : Real' f) (i k : Fin 3) : Real' (entry v (sq v) f i k) := by
  have hs : ∀ i k, Real' (skew v i k) := by
    have hn : ∀ k, Real' (-v k) := fun k => by obtain ⟨r, hr⟩ := hv k; exact ⟨-r, by rw [hr]; push_cast; rfl⟩
    intro i k
    fin_cases i <;> fin_cases k
    · exact real_zero
    · exact hn 2
    · exact hv 1
    · exact hv 2
    · exact real_zero
    · exact hn 0
    · exact hn 1
    · exact hv 0
    · exact real_zero
  rw [← entry_eq v f hv hf i k, Fin.sum_univ_three]
  refine real_add (real_add ?_ (hs i k)) (real_mul (real_add (real_add (real_mul (hs _ _) (hs _ _)) (real_mul (hs _ _) (hs _ _))) (real_mul (hs _ _) (hs _ _))) hf)
  split
  · exact real_one
  · exact real_zero

/-- The rotation's entries are real. -/
theorem rot_real (t d : Fin 3 → EReal) (i k : Fin 3) : Real' (rot t d i k) := by
  unfold rot
  split
  · split
    · exact real_one
    · exact real_zero
  · exact entry_real _ _ (cross_real _ _ (dir_real t) (dir_real d)) (weight_real _ _ (dir_real t) (dir_real d)) i k

open Classical in
/-- The rotation as the identity plus the axis matrix plus its weighted square. -/
theorem rot_eq (t d : Fin 3 → EReal) (i k : Fin 3) :
    rot t d i k = if Short t d then (if i = k then 1 else 0) else
      ((if i = k then 1 else 0) + skew (cross (dir t) (dir d)) i k) + (∑ j, skew (cross (dir t) (dir d)) i j * skew (cross (dir t) (dir d)) j k)
        * Ideal.div (1 - ∑ k, dir t k * dir d k) ((∑ k, cross (dir t) (dir d) k * cross (dir t) (dir d) k) + eps) := by
  have hw : Ideal.div (1 - ∑ k, dir t k * dir d k) ((∑ k, cross (dir t) (dir d) k * cross (dir t) (dir d) k) + eps) = weight (dir t) (dir d) := by
    simp only [weight, sq, Fin.sum_univ_three]
  rw [hw, entry_eq _ _ (cross_real _ _ (dir_real t) (dir_real d)) (weight_real _ _ (dir_real t) (dir_real d))]
  rfl

end Cert.Spec

end
-- ==== Proof.Words.lean ====
/- The indices below 4096 as 32-bit words, and two reads of a gather by such an index. -/
module

public import proofs.«01_k».proof.Proof.Gen.ReferenceIdeal.Read
public import proofs.«01_k».proof.Proof.Spec

@[expose] public section

set_option maxRecDepth 16384

noncomputable section

namespace Cert.Words

open Cert.ReferenceIdeal
open Idealize.ShloMosaic Idealize.ShloMosaic.TcCoe Idealize.SL.Sem

theorem toInt_small (p : ℕ) (h : p < 4096) : (BitVec.ofNat 32 p).toInt = p := by
  rw [BitVec.toInt_eq_toNat_of_lt (by rw [BitVec.toNat_ofNat]; omega), BitVec.toNat_ofNat]
  omega

/-- A small index is not negative. -/
theorem not_neg (p : ℕ) (h : p < 4096) : IntOp.cmpi .slt (BitVec.ofNat 32 p) 0#32 = 0#1 := by
  have e : ¬ ((p : ℤ) < 0) := by omega
  simp [IntOp.cmpi, BitVec.slt, toInt_small p h, e]

theorem ge_zero (p : ℕ) (h : p < 4096) : IntOp.cmpi .sge (BitVec.ofNat 32 p) 0#32 = 1#1 := by
  simp [IntOp.cmpi, BitVec.sle, toInt_small p h]

theorem le_last (p : ℕ) (h : p < 4096) : IntOp.cmpi .sle (BitVec.ofNat 32 p) 4095#32 = 1#1 := by
  have e : (p : ℤ) ≤ 4095 := by omega
  simp [IntOp.cmpi, BitVec.sle, toInt_small p h, e]

/-- An index back from its word, clamped into the range. -/
theorem clamp (p : Fin 4096) : min (BitVec.ofNat 32 p.val).toInt.toNat 4095 = p.val := by
  rw [toInt_small _ p.isLt]; omega

/-- Counting a negative index from the end leaves a small one alone. -/
theorem wrap (p : ℕ) (h : p < 4096) (y : BitVec 32) : Scalar.select (IntOp.cmpi .slt (BitVec.ofNat 32 p) 0#32) y (BitVec.ofNat 32 p) = BitVec.ofNat 32 p := by
  rw [not_neg p h]; rfl

/-- A gather along the last axis reads the entry that the index names. -/
theorem gather_last {α : Type} (x : S128x20x4096.Idx → α) (w : IVec S128x20x300x1 32) (b : Fin 128) (n : Fin 20) (s : Fin 300) (p : Fin 4096)
    (h : w (ix4 b n s 0) = BitVec.ofNat 32 p.val) :
    Host.gather gather_S128x20x4096_S128x20x300x1_S128x20x300_n_2_01_01_2_3_111 x w (ix3 b n s) = x (ix3 b n p) := by
  unfold Host.gather
  congr 1
  funext a
  refine Fin.ext ?_
  show GatherDims.start _ (ix3 b n s) w a + GatherDims.batchCoord _ (ix3 b n s) a + GatherDims.offCoord _ (ix3 b n s) a = _
  have hsi : ∀ c, GatherDims.siIdx gather_S128x20x4096_S128x20x300x1_S128x20x300_n_2_01_01_2_3_111 (ix3 b n s) c = ix4 b n s 0 := by
    intro c
    funext e; refine Fin.ext ?_
    have hc : c.val = 0 := by have := c.isLt; exact Nat.lt_one_iff.1 this
    match e with
    | ⟨0, _⟩ => rfl
    | ⟨1, _⟩ => rfl
    | ⟨2, _⟩ => rfl
    | ⟨3, _⟩ => exact hc
  match a with
  | ⟨0, _⟩ => exact Nat.zero_add _
  | ⟨1, _⟩ => exact Nat.zero_add _
  | ⟨2, _⟩ =>
    have e : GatherDims.start gather_S128x20x4096_S128x20x300x1_S128x20x300_n_2_01_01_2_3_111 (ix3 b n s) w ⟨2, by decide⟩ = p.val := by
      unfold GatherDims.start
      rw [dif_pos (by decide), hsi, h]
      exact clamp p
    exact e

/-- A gather of rows reads the row that the index names. -/
theorem gather_row {α : Type} (x : S128x4096x6.Idx → α) (w : IVec S128x6000x1 32) (b : Fin 128) (r : Fin 6000) (d : Fin 6) (p : Fin 4096)
    (h : w (ix3 b r 0) = BitVec.ofNat 32 p.val) :
    Host.gather gather_S128x4096x6_S128x6000x1_S128x6000x6_2_1_0_0_1_2_116 x w (ix3 b r d) = x (ix3 b p d) := by
  unfold Host.gather
  congr 1
  funext a
  refine Fin.ext ?_
  show GatherDims.start _ (ix3 b r d) w a + GatherDims.batchCoord _ (ix3 b r d) a + GatherDims.offCoord _ (ix3 b r d) a = _
  have hsi : ∀ c, GatherDims.siIdx gather_S128x4096x6_S128x6000x1_S128x6000x6_2_1_0_0_1_2_116 (ix3 b r d) c = ix3 b r 0 := by
    intro c
    funext e; refine Fin.ext ?_
    have hc : c.val = 0 := by have := c.isLt; exact Nat.lt_one_iff.1 this
    match e with
    | ⟨0, _⟩ => rfl
    | ⟨1, _⟩ => rfl
    | ⟨2, _⟩ => exact hc
  match a with
  | ⟨0, _⟩ => exact Nat.zero_add _
  | ⟨1, _⟩ =>
    have e : GatherDims.start gather_S128x4096x6_S128x6000x1_S128x6000x6_2_1_0_0_1_2_116 (ix3 b r d) w ⟨1, by decide⟩ = p.val := by
      unfold GatherDims.start
      rw [dif_pos (by decide), hsi, h]
      exact clamp p
    exact e
  | ⟨2, _⟩ => exact Nat.zero_add _

end Cert.Words

end
-- ==== Proof.Order.lean ====
/- Sorting by a key: the order is a rearrangement, and the first places hold every index whose key is below the top one. -/
module

public import proofs.«01_k».proof.Proof.Spec
public import Idealize.ShloMosaic.Lib.SortFacts

@[expose] public section

set_option maxRecDepth 16384

noncomputable section

namespace Cert.Order

open Idealize.ShloMosaic

/-- The indices in ascending order of a key, equal keys in their own order. -/
def order (key : Fin 4096 → EReal) : Fin 4096 → Fin 4096 := sortedFrom fun k k' => decide (key k < key k')

theorem order_surjective (key : Fin 4096 → EReal) : Function.Surjective (order key) := sortedFrom_surjective _

theorem order_injective (key : Fin 4096 → EReal) : Function.Injective (order key) := sortedFrom_injective _

/-- An earlier place holds no larger key. -/
theorem order_le (key : Fin 4096 → EReal) (i j : Fin 4096) (h : i < j) : key (order key i) ≤ key (order key j) := by
  have e := sortedFrom_noInversion (fun k k' => decide (key k < key k')) (fun k k' => decide (key k < key k'))
    (fun a b hab => by simp only [decide_eq_true_eq] at hab; simpa using hab.le)
    (fun _ _ h => h)
    (fun a b c hab hbc => by simp only [decide_eq_false_iff_not, not_lt] at hab hbc ⊢; exact hbc.trans hab)
    i j h
  simpa [order] using e

/-- When at most `m` keys are below the top one, each of them has a place among the first `m`. -/
theorem place_lt (key : Fin 4096 → EReal) (near : Fin 4096 → Prop) [DecidablePred near] (m : ℕ) (hk : ∀ p, near p ↔ key p < ⊤)
    (hm : (Finset.univ.filter near).card ≤ m) (s : Fin 4096) (hs : near (order key s)) : s.val < m := by
  by_contra hc
  have hsub : (Finset.Iic s).image (order key) ⊆ Finset.univ.filter near := by
    intro p hp
    obtain ⟨i, hi, rfl⟩ := Finset.mem_image.1 hp
    have hi' := Finset.mem_Iic.1 hi
    refine Finset.mem_filter.2 ⟨Finset.mem_univ _, (hk _).2 ?_⟩
    rcases hi'.lt_or_eq with h | h
    · exact (order_le key i s h).trans_lt ((hk _).1 hs)
    · rw [h]; exact (hk _).1 hs
  have h1 := Finset.card_le_card hsub
  rw [Finset.card_image_of_injective _ (order_injective key), Fin.card_Iic] at h1
  omega

end Cert.Order

end
-- ==== Proof.RefPoints.lean ====
/- The reference's nearest points: which indices its sort puts first, and the points it gathers. -/
module

public import proofs.«01_k».proof.Proof.Gen.ReferenceIdeal.Read
public import proofs.«01_k».proof.Proof.Spec
public import proofs.«01_k».proof.Proof.Words
public import proofs.«01_k».proof.Proof.Order

@[expose] public section

set_option maxRecDepth 16384

noncomputable section

namespace Cert.RefPoints

open Cert.ReferenceIdeal Cert.ReferenceIdeal.Read
open Idealize.ShloMosaic Idealize.ShloMosaic.TcCoe Idealize.SL.Sem

variable (A0 : FVec Ideal S8x16x12 .f32) (A1 : FVec Ideal S8x16x1024x6 .f32) (A2 : FVec Ideal S8x16x4096x6 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32)

theorem select_if {α : Type} (p : Prop) [Decidable p] (x y : α) : Scalar.select (BitVec.ofBool (decide p)) x y = if p then x else y := by
  by_cases h : p <;> simp [Scalar.select, h]

/-- The object's point `p` of batch row `b`, six numbers. -/
theorem v157_apply (b : Fin 128) (p : Fin 4096) (d : Fin 6) : val_main_v157 (F := Ideal) A2 (ix3 b p d) = A2 (ix4 ⟨b.val / 16, by omega⟩ ⟨b.val % 16, by omega⟩ p d) := by
  pointwise [val_main_v157]

/-- The joints after the wrist, sliced back off the list that starts with it. -/
theorem v151_apply (b : Fin 128) (n : Fin 20) (k : Fin 3) : val_main_v151 (F := Ideal) A0 A1 A4 A5 A6 A7 A8 A9 A10 A11 (ix3 b n k) = val_main_v25 (F := Ideal) A0 A1 A4 A5 A6 A7 A8 A9 A10 A11 (ix3 b n k) := by
  pointwise [val_main_v151, val_main_v28, val_main_v27, val_main_cst_2]

/-- The squared distance of the joint and the point. -/
theorem v165_apply (b : Fin 128) (n : Fin 20) (p : Fin 4096) : val_main_v165 (F := Ideal) A0 A1 A2 A4 A5 A6 A7 A8 A9 A10 A11 (ix3 b n p)
    = ∑ k : Fin 3, (val_main_v151 (F := Ideal) A0 A1 A4 A5 A6 A7 A8 A9 A10 A11 (ix3 b n k) - val_main_v157 (F := Ideal) A2 (ix3 b p ⟨k.val, by omega⟩)) * (val_main_v151 (F := Ideal) A0 A1 A4 A5 A6 A7 A8 A9 A10 A11 (ix3 b n k) - val_main_v157 (F := Ideal) A2 (ix3 b p ⟨k.val, by omega⟩)) := by
  pointwise [val_main_v165, val_main_v164, val_main_v163, val_main_v161, val_main_v159, val_main_v162, val_main_v160, val_main_v158, val_main_cst_14]

theorem v167_apply (b : Fin 128) (n : Fin 20) (p : Fin 4096) : val_main_v167 (F := Ideal) A0 A1 A2 A4 A5 A6 A7 A8 A9 A10 A11 (ix3 b n p) = BitVec.ofBool (decide (val_main_v165 (F := Ideal) A0 A1 A2 A4 A5 A6 A7 A8 A9 A10 A11 (ix3 b n p) < Spec.radius)) := by
  unfold Spec.radius
  pointwise [val_main_v167, val_main_v166, val_main_cst_15]

theorem v168_apply (b : Fin 128) (n : Fin 20) (p : Fin 4096) : val_main_v168 (F := Ideal) A0 A1 A2 A4 A5 A6 A7 A8 A9 A10 A11 (ix3 b n p) = if val_main_v165 (F := Ideal) A0 A1 A2 A4 A5 A6 A7 A8 A9 A10 A11 (ix3 b n p) < Spec.radius then val_main_v165 (F := Ideal) A0 A1 A2 A4 A5 A6 A7 A8 A9 A10 A11 (ix3 b n p) else Ideal.ofBits .f32 0x7F800000#32 := by
  have h := v167_apply A0 A1 A2 A4 A5 A6 A7 A8 A9 A10 A11 b n p
  pointwise [val_main_v168, val_main_call1_v1, val_main_call1_v0, val_main_cst_16]
  rw [h, select_if]
  rfl

/-- The order of two keys. -/
theorem before_iff (l r : Ideal .f32 × BitVec 32) : comparator_f32_i32_d2 (F := Ideal) l r = BitVec.ofBool (decide (l.1 < r.1)) := by
  have e : ∀ x : Ideal .f32, Scalar.select (FloatOps.cmpf .oeq x (FloatOps.ofBits .f32 0x00000000#32)) (FloatOps.ofBits .f32 0x00000000#32) x = x := by
    intro x
    show Scalar.select (BitVec.ofBool (decide (x = Ideal.ofBits .f32 0x00000000#32))) (Ideal.ofBits .f32 0x00000000#32) x = x
    rw [select_if]
    split
    · exact Eq.symm ‹_›
    · rfl
  have e2 : ∀ x y : Ideal .f32, Scalar.select (FloatOps.cmpf .une x x) y x = x := by
    intro x y
    show Scalar.select (BitVec.ofBool (decide (x ≠ x))) y x = x
    rw [select_if, if_neg (by simp)]
  unfold comparator_f32_i32_d2
  simp only [e, e2]
  rfl

theorem along_ix3 (b : Fin 128) (n : Fin 20) (s : Fin 4096) (k : Fin 4096) : Shape.Idx.along (s := S128x20x4096) (ix3 b n s) (2 : Fin 3) k = ix3 b n k := by
  funext a
  match a with
  | ⟨0, _⟩ => rfl
  | ⟨1, _⟩ => rfl
  | ⟨2, _⟩ => rfl

theorem bit_beq (p : Prop) [Decidable p] : (BitVec.ofBool (decide p) == 1#1) = decide p := by
  by_cases h : p <;> simp [h]

/-- The word at a place of the sorted indices. -/
theorem v169_apply (b : Fin 128) (n : Fin 20) (s : Fin 4096) : val_main_v169 (F := Ideal) A0 A1 A2 A4 A5 A6 A7 A8 A9 A10 A11 (ix3 b n s) = BitVec.ofNat 32 (Order.order (fun k => val_main_v168 (F := Ideal) A0 A1 A2 A4 A5 A6 A7 A8 A9 A10 A11 (ix3 b n k)) s).val := by
  unfold val_main_v169 Host.sort2
  rw [dif_pos (by decide)]
  simp only [before_iff, bit_beq]
  refine (congrArg _ (along_ix3 b n s _)).trans ?_
  refine congrArg (fun g => BitVec.ofNat 32 (sortedFrom g s).val) ?_
  funext k k'
  exact congrArg₂ (fun u v : EReal => decide (u < v)) (congrArg _ (along_ix3 b n s k)) (congrArg _ (along_ix3 b n s k'))

/-- The point at a place of the order about a joint. -/
abbrev place (b : Fin 128) (n : Fin 20) (s : Fin 300) : Fin 4096 := Order.order (fun k => val_main_v168 (F := Ideal) A0 A1 A2 A4 A5 A6 A7 A8 A9 A10 A11 (ix3 b n k)) ⟨s.val, by omega⟩

theorem v170_apply (b : Fin 128) (n : Fin 20) (s : Fin 300) : val_main_v170 (F := Ideal) A0 A1 A2 A4 A5 A6 A7 A8 A9 A10 A11 (ix3 b n s) = BitVec.ofNat 32 (place A0 A1 A2 A4 A5 A6 A7 A8 A9 A10 A11 b n s).val := by
  rw [← v169_apply]
  pointwise [val_main_v170]

/-- The index is in range, so it is used as it is. -/
theorem call3_v5_apply (b : Fin 128) (n : Fin 20) (s : Fin 300) (z : Fin 1) : val_main_call3_v5 (F := Ideal) A0 A1 A2 A4 A5 A6 A7 A8 A9 A10 A11 (ix4 b n s z) = BitVec.ofNat 32 (place A0 A1 A2 A4 A5 A6 A7 A8 A9 A10 A11 b n s).val := by
  have h := v170_apply A0 A1 A2 A4 A5 A6 A7 A8 A9 A10 A11 b n s
  pointwise [val_main_call3_v5, val_main_call3_v4, val_main_call3_v1, val_main_call3_v0, val_main_call3_c, val_main_call3_v3, val_main_call3_v2, val_main_call3_c_0]
  rw [h]
  exact Words.wrap _ (place A0 A1 A2 A4 A5 A6 A7 A8 A9 A10 A11 b n s).isLt _

theorem call3_v11_apply (b : Fin 128) (n : Fin 20) (s : Fin 300) (z : Fin 1) : val_main_call3_v11 (F := Ideal) A0 A1 A2 A4 A5 A6 A7 A8 A9 A10 A11 (ix4 b n s z) = 1#1 := by
  have h := call3_v5_apply A0 A1 A2 A4 A5 A6 A7 A8 A9 A10 A11 b n s z
  pointwise [val_main_call3_v11, val_main_call3_v7, val_main_call3_v6, val_main_call3_c_2, val_main_call3_v10, val_main_call3_v9, val_main_call3_v8, val_main_call3_c_1]
  rw [h, Words.ge_zero _ (place A0 A1 A2 A4 A5 A6 A7 A8 A9 A10 A11 b n s).isLt, Words.le_last _ (place A0 A1 A2 A4 A5 A6 A7 A8 A9 A10 A11 b n s).isLt]
  rfl

/-- The mark at a place: whether the point there lies near the joint. -/
theorem v171_apply (b : Fin 128) (n : Fin 20) (s : Fin 300) : val_main_v171 (F := Ideal) A0 A1 A2 A4 A5 A6 A7 A8 A9 A10 A11 (ix3 b n s) = val_main_v167 (F := Ideal) A0 A1 A2 A4 A5 A6 A7 A8 A9 A10 A11 (ix3 b n (place A0 A1 A2 A4 A5 A6 A7 A8 A9 A10 A11 b n s)) := by
  have h := Words.gather_last (val_main_v167 (F := Ideal) A0 A1 A2 A4 A5 A6 A7 A8 A9 A10 A11) (val_main_call3_v5 (F := Ideal) A0 A1 A2 A4 A5 A6 A7 A8 A9 A10 A11) b n s (place A0 A1 A2 A4 A5 A6 A7 A8 A9 A10 A11 b n s) (call3_v5_apply A0 A1 A2 A4 A5 A6 A7 A8 A9 A10 A11 b n s 0)
  have h2 := call3_v11_apply A0 A1 A2 A4 A5 A6 A7 A8 A9 A10 A11 b n s
  pointwise [val_main_v171, val_main_call3_v12, val_main_call3_c_3, val_main_call3_v14, val_main_call3_c_4]
  simp only [h2]
  exact h

/-- The index a place holds, when the point there lies near. -/
theorem v172_apply (b : Fin 128) (n : Fin 20) (s : Fin 300) (h : val_main_v171 (F := Ideal) A0 A1 A2 A4 A5 A6 A7 A8 A9 A10 A11 (ix3 b n s) = 1#1) : val_main_v172 (F := Ideal) A0 A1 A2 A4 A5 A6 A7 A8 A9 A10 A11 (ix3 b n s) = BitVec.ofNat 32 (place A0 A1 A2 A4 A5 A6 A7 A8 A9 A10 A11 b n s).val := by
  have h1 := v170_apply A0 A1 A2 A4 A5 A6 A7 A8 A9 A10 A11 b n s
  pointwise [val_main_v172, val_main_call4_v1, val_main_call4_v0, val_main_c_17]
  rw [h, h1]
  rfl

theorem call6_v4_apply (b : Fin 128) (n : Fin 20) (s : Fin 300) (z : Fin 1) (h : val_main_v171 (F := Ideal) A0 A1 A2 A4 A5 A6 A7 A8 A9 A10 A11 (ix3 b n s) = 1#1) :
    val_main_call6_v4 (F := Ideal) A0 A1 A2 A4 A5 A6 A7 A8 A9 A10 A11 (ix3 b ⟨n.val * 300 + s.val, by omega⟩ z) = BitVec.ofNat 32 (place A0 A1 A2 A4 A5 A6 A7 A8 A9 A10 A11 b n s).val := by
  have h1 := v172_apply A0 A1 A2 A4 A5 A6 A7 A8 A9 A10 A11 b n s h
  pointwise [val_main_call6_v4, val_main_call6_v1, val_main_v179, val_main_v178, val_main_v175, val_main_v173, val_main_v174, val_main_c_18, val_main_v177, val_main_v176, val_main_c_19, val_main_call6_v0, val_main_call6_c, val_main_call6_v3, val_main_call6_v2, val_main_call6_c_0]
  rw [h1]
  simp only [Words.wrap _ (place A0 A1 A2 A4 A5 A6 A7 A8 A9 A10 A11 b n s).isLt]

theorem call6_v10_apply (b : Fin 128) (n : Fin 20) (s : Fin 300) (z : Fin 1) (h : val_main_v171 (F := Ideal) A0 A1 A2 A4 A5 A6 A7 A8 A9 A10 A11 (ix3 b n s) = 1#1) :
    val_main_call6_v10 (F := Ideal) A0 A1 A2 A4 A5 A6 A7 A8 A9 A10 A11 (ix3 b ⟨n.val * 300 + s.val, by omega⟩ z) = 1#1 := by
  have h1 := call6_v4_apply A0 A1 A2 A4 A5 A6 A7 A8 A9 A10 A11 b n s z h
  pointwise [val_main_call6_v10, val_main_call6_v6, val_main_call6_v5, val_main_call6_c_2, val_main_call6_v9, val_main_call6_v8, val_main_call6_v7, val_main_call6_c_1]
  rw [h1, Words.ge_zero _ (place A0 A1 A2 A4 A5 A6 A7 A8 A9 A10 A11 b n s).isLt, Words.le_last _ (place A0 A1 A2 A4 A5 A6 A7 A8 A9 A10 A11 b n s).isLt]
  rfl

/-- The point gathered at a place, when it lies near. -/
theorem v181_apply (b : Fin 128) (n : Fin 20) (s : Fin 300) (d : Fin 6) (h : val_main_v171 (F := Ideal) A0 A1 A2 A4 A5 A6 A7 A8 A9 A10 A11 (ix3 b n s) = 1#1) :
    val_main_v181 (F := Ideal) A0 A1 A2 A4 A5 A6 A7 A8 A9 A10 A11 (ix4 b n s d) = val_main_v157 (F := Ideal) A2 (ix3 b (place A0 A1 A2 A4 A5 A6 A7 A8 A9 A10 A11 b n s) d) := by
  have h1 := Words.gather_row (val_main_v157 (F := Ideal) A2) (val_main_call6_v4 (F := Ideal) A0 A1 A2 A4 A5 A6 A7 A8 A9 A10 A11) b ⟨n.val * 300 + s.val, by omega⟩ d (place A0 A1 A2 A4 A5 A6 A7 A8 A9 A10 A11 b n s) (call6_v4_apply A0 A1 A2 A4 A5 A6 A7 A8 A9 A10 A11 b n s 0 h)
  have h2 := call6_v10_apply A0 A1 A2 A4 A5 A6 A7 A8 A9 A10 A11 b n s
  pointwise [val_main_v181, val_main_v180, val_main_call6_v13, val_main_call6_v11, val_main_call6_c_3, val_main_call6_v14, val_main_call6_cst]
  simp only [h2 _ h]
  exact h1

end Cert.RefPoints

end
-- ==== Proof.Few.lean ====
/- What the precondition says of the arrays: finite joints, normals and weights, and few points near each joint. -/
module

public import proofs.«01_k».proof.Proof.Gen.ReferenceIdeal.Read
public import proofs.«01_k».proof.Proof.Gen.Pre_few_near
public import proofs.«01_k».proof.Proof.Spec
public import proofs.«01_k».proof.Proof.RotMath
public import proofs.«01_k».proof.Proof.Consts
public import proofs.«01_k».proof.Proof.RefPoints

@[expose] public section

set_option maxRecDepth 16384

noncomputable section

namespace Cert.Few

open Cert.ReferenceIdeal.Read
open Cert.Pre_few_near Cert.Pre_few_near.Gen
open Idealize.ShloMosaic Idealize.ShloMosaic.TcCoe Idealize.SL.Sem

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32) (A16 : FVec Ideal S256x256 .f32) (A17 : FVec Ideal S256 .f32) (A18 : FVec Ideal S256x3 .f32) (A19 : FVec Ideal S3 .f32)

/-- An extended real that its absolute value shows below infinity is real. -/
theorem real_of_abs (x : EReal) (h : FloatOps.cmpf .olt (FloatOps.hostAbsf (φ := .f32) (F := Ideal) x) (FloatOps.ofBits .f32 0x7F800000#32) = 1#1) : Spec.Real' x := by
  have h' : BitVec.ofBool (decide (max x (-x) < Ideal.ofBits .f32 0x7F800000#32)) = 1#1 := h
  rw [Spec.ofBits_top] at h'
  have h2 : max x (-x) < ⊤ := by
    by_contra hc
    rw [decide_eq_false hc] at h'
    exact absurd h' (by decide)
  induction x with
  | bot => exact absurd h2 (by simp)
  | top => exact absurd h2 (by simp)
  | coe r => exact ⟨r, rfl⟩

/-- Counting marks in 32-bit words. -/
theorem count_bits (near : Fin 4096 → Prop) [DecidablePred near] : Finset.fold IntOp.addi (0#32) (fun p => (if near p then 1#1 else 0#1).setWidth 32) Finset.univ = BitVec.ofNat 32 (Finset.univ.filter near).card := by
  have h : ∀ s : Finset (Fin 4096), Finset.fold IntOp.addi (0#32) (fun p => (if near p then 1#1 else 0#1).setWidth 32) s = BitVec.ofNat 32 (s.filter near).card := by
    intro s
    induction s using Finset.induction_on with
    | empty => rfl
    | insert a s ha ih =>
      rw [Finset.fold_insert ha, ih, Finset.filter_insert]
      by_cases h1 : near a
      · rw [if_pos h1, if_pos h1, Finset.card_insert_of_notMem (fun hm => ha (Finset.mem_filter.1 hm).1)]
        rw [add_comm, BitVec.ofNat_add]; rfl
      · rw [if_neg h1, if_neg h1]
        exact BitVec.zero_add _
  exact h _

theorem le_of_word (p : ℕ) (hp : p ≤ 4096) (h : IntOp.cmpi .sle (BitVec.ofNat 32 p) 300#32 = 1#1) : p ≤ 300 := by
  have e : (BitVec.ofNat 32 p).toInt = p := by
    rw [BitVec.toInt_eq_toNat_of_lt (by rw [BitVec.toNat_ofNat]; omega), BitVec.toNat_ofNat]
    omega
  by_contra hc
  have e2 : ¬ ((p : ℤ) ≤ 300) := by omega
  revert h
  simp [IntOp.cmpi, BitVec.sle, e, e2]

/-- How many points the precondition counts near each joint. -/
def count (J : FVec Ideal S128x20x3 .f32) (P : FVec Ideal S128x4096x6 .f32) : IVec S128x20 32 :=
  Host.reduce IntOp.addi
    (extui 32
      (cmpf .olt
        (Host.reduceAdd
          (mulf
            (subf (broadcastInDim S128x20x4096x3 ![0, 1, 2, 3] bcast_S128x20x1x3_S128x20x4096x3_0_1_2_3 (broadcastInDim S128x20x1x3 ![0, 1, 3] bcast_S128x20x3_S128x20x1x3_0_1_3 J))
              (broadcastInDim S128x20x4096x3 ![0, 1, 2, 3] bcast_S128x1x4096x3_S128x20x4096x3_0_1_2_3 (broadcastInDim S128x1x4096x3 ![0, 2, 3] bcast_S128x4096x3_S128x1x4096x3_0_2_3 (extractStridedSlice S128x4096x3 ![0, 0, 0] P slices_S128x4096x6_S128x4096x3_0_0_0))))
            (subf (broadcastInDim S128x20x4096x3 ![0, 1, 2, 3] bcast_S128x20x1x3_S128x20x4096x3_0_1_2_3 (broadcastInDim S128x20x1x3 ![0, 1, 3] bcast_S128x20x3_S128x20x1x3_0_1_3 J))
              (broadcastInDim S128x20x4096x3 ![0, 1, 2, 3] bcast_S128x1x4096x3_S128x20x4096x3_0_1_2_3 (broadcastInDim S128x1x4096x3 ![0, 2, 3] bcast_S128x4096x3_S128x1x4096x3_0_2_3 (extractStridedSlice S128x4096x3 ![0, 0, 0] P slices_S128x4096x6_S128x4096x3_0_0_0)))))
          (constant S_ .f32 0x00000000#32) reducesTo_S128x20x4096x3_S128x20x4096_d3 h_S_)
        (broadcastInDim S128x20x4096 ![] bcast_S_S128x20x4096 (constant S_ .f32 0x3A23D70A#32)))
      natLt_1_32)
    (constantI S_ 32 0#32) reducesTo_S128x20x4096_S128x20_d2 h_S_

theorem count_apply (J : FVec Ideal S128x20x3 .f32) (P : FVec Ideal S128x4096x6 .f32) (b : Fin 128) (n : Fin 20) :
    count J P (ix2 b n) = Finset.fold IntOp.addi (0#32)
      (fun p : Fin 4096 => (BitVec.ofBool (decide (∑ k : Fin 3, (J (ix3 b n k) - P (ix3 b p ⟨k.val, by omega⟩)) * (J (ix3 b n k) - P (ix3 b p ⟨k.val, by omega⟩)) < Spec.radius))).setWidth 32) Finset.univ := by
  unfold Spec.radius
  pointwise [count]

/-- The precondition of the joints and the points. -/
theorem fn_eq : fn (F := Ideal) A0 A1 A2 A3 A4 A5 A6 A7 A8 A9 A10 A11 A12 A13 A14 A15 A16 A17 A18 A19 = fn_part2 (F := Ideal) A14 (val_main_v157 (F := Ideal) A2) (count (val_main_v25 (F := Ideal) A0 A1 A4 A5 A6 A7 A8 A9 A10 A11) (val_main_v157 (F := Ideal) A2)) (Host.absf (val_main_v25 (F := Ideal) A0 A1 A4 A5 A6 A7 A8 A9 A10 A11)) (broadcastInDim S128x20x3 ![] bcast_S_S128x20x3 (constant S_ .f32 0x7F800000#32)) := by
  unfold fn fn_part1 count val_main_v25 val_main_v24 val_main_v21 val_main_v20 val_main_v18 val_main_v15 val_main_v14 val_main_v13 val_main_v12 val_main_v11 val_main_v8 val_main_v7 val_main_v6 val_main_v4 val_main_v1 val_main_v0 val_main_v3 val_main_v2 val_main_v5 val_main_cst val_main_cst_0 val_main_v10 val_main_v9 val_main_v17 val_main_v16 val_main_v19 val_main_cst_1 val_main_v23 val_main_v22 val_main_v157
  rfl

theorem part2_count (W : FVec Ideal S6x128 .f32) (P : FVec Ideal S128x4096x6 .f32) (N : IVec S128x20 32) (x y : FVec Ideal S128x20x3 .f32) (i : S128x20.Idx) :
    (fn_part2 (F := Ideal) W P N x y).2.2.2 i = IntOp.cmpi .sle (N i) 300#32 := rfl

theorem joints_real (h : (fn (F := Ideal) A0 A1 A2 A3 A4 A5 A6 A7 A8 A9 A10 A11 A12 A13 A14 A15 A16 A17 A18 A19).1 = fun _ => 1#1) (b : Fin 128) (n : Fin 20) (k : Fin 3) : Spec.Real' (val_main_v25 (F := Ideal) A0 A1 A4 A5 A6 A7 A8 A9 A10 A11 (ix3 b n k)) := by
  rw [fn_eq] at h
  have h' := congrFun h (ix3 b n k)
  exact real_of_abs _ h'

theorem normals_real (h : (fn (F := Ideal) A0 A1 A2 A3 A4 A5 A6 A7 A8 A9 A10 A11 A12 A13 A14 A15 A16 A17 A18 A19).2.1 = fun _ => 1#1) (b : Fin 128) (p : Fin 4096) (k : Fin 3) : Spec.Real' (val_main_v157 (F := Ideal) A2 (ix3 b p ⟨3 + k.val, by omega⟩)) := by
  rw [fn_eq] at h
  have h' := congrFun h (ix3 b p k)
  refine real_of_abs _ (Eq.trans ?_ h')
  unfold fn_part2
  pointwise []

theorem weights_real (h : (fn (F := Ideal) A0 A1 A2 A3 A4 A5 A6 A7 A8 A9 A10 A11 A12 A13 A14 A15 A16 A17 A18 A19).2.2.1 = fun _ => 1#1) (k : Fin 6) (o : Fin 128) : Spec.Real' (A14 (ix2 k o)) := by
  rw [fn_eq] at h
  have h' := congrFun h (ix2 k o)
  exact real_of_abs _ h'

theorem near_card (h : (fn (F := Ideal) A0 A1 A2 A3 A4 A5 A6 A7 A8 A9 A10 A11 A12 A13 A14 A15 A16 A17 A18 A19).2.2.2 = fun _ => 1#1) (b : Fin 128) (n : Fin 20) :
    (Finset.univ.filter fun p : Fin 4096 => val_main_v165 (F := Ideal) A0 A1 A2 A4 A5 A6 A7 A8 A9 A10 A11 (ix3 b n p) < Spec.radius).card ≤ 300 := by
  rw [fn_eq] at h
  have h' : IntOp.cmpi .sle (count (val_main_v25 (F := Ideal) A0 A1 A4 A5 A6 A7 A8 A9 A10 A11) (val_main_v157 (F := Ideal) A2) (ix2 b n)) 300#32 = 1#1 := (part2_count _ _ _ _ _ _).symm.trans (congrFun h (ix2 b n))
  rw [count_apply] at h'
  have e : ∀ p : Fin 4096, BitVec.ofBool (decide (∑ k : Fin 3, (val_main_v25 (F := Ideal) A0 A1 A4 A5 A6 A7 A8 A9 A10 A11 (ix3 b n k) - val_main_v157 (F := Ideal) A2 (ix3 b p ⟨k.val, by omega⟩)) * (val_main_v25 (F := Ideal) A0 A1 A4 A5 A6 A7 A8 A9 A10 A11 (ix3 b n k) - val_main_v157 (F := Ideal) A2 (ix3 b p ⟨k.val, by omega⟩)) < Spec.radius))
      = if val_main_v165 (F := Ideal) A0 A1 A2 A4 A5 A6 A7 A8 A9 A10 A11 (ix3 b n p) < Spec.radius then 1#1 else 0#1 := by
    intro p
    rw [RefPoints.v165_apply]
    simp only [RefPoints.v151_apply]
    by_cases hc : ∑ k : Fin 3, (val_main_v25 (F := Ideal) A0 A1 A4 A5 A6 A7 A8 A9 A10 A11 (ix3 b n k) - val_main_v157 (F := Ideal) A2 (ix3 b p ⟨k.val, by omega⟩)) * (val_main_v25 (F := Ideal) A0 A1 A4 A5 A6 A7 A8 A9 A10 A11 (ix3 b n k) - val_main_v157 (F := Ideal) A2 (ix3 b p ⟨k.val, by omega⟩)) < Spec.radius
    · rw [if_pos hc, decide_eq_true hc]; rfl
    · rw [if_neg hc, decide_eq_false hc]; rfl
  simp only [e] at h'
  refine le_of_word _ ((Finset.card_le_univ _).trans (by simp)) ?_
  rw [← count_bits]
  exact h'

end Cert.Few

end
-- ==== Proof.RefJoints.lean ====
/- The reference's joints are the kernel's. -/
module

public import proofs.«01_k».proof.Proof.Gen.ReferenceIdeal.Read
public import proofs.«01_k».proof.Proof.KernelValue

@[expose] public section

set_option maxRecDepth 16384

noncomputable section

namespace Cert.RefJoints

open Cert.KernelIdeal Cert.KernelIdeal.Gen Cert.ReferenceIdeal.Read
open Idealize.ShloMosaic Idealize.ShloMosaic.TcCoe Idealize.SL.Sem

variable (A0 : FVec Ideal S8x16x12 .f32) (A1 : FVec Ideal S8x16x1024x6 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32)

/-- The pooled point features agree. -/
theorem pooled : (shapeCast S128x128 (Pool.poolOf (shapeCast S128x1024x6 A1 shapeCasts_S8x16x1024x6_S128x1024x6) A4 (shapeCast S1x128 A5 shapeCasts_S128_S1x128)) shapeCasts_S128x1x128_S128x128) = val_main_v7 (F := Ideal) A1 A4 A5 := by
  funext y
  idx_vars y
  pointwise [Pool.poolOf, val_main_v7, val_main_v6, val_main_v4, val_main_v1, val_main_v0, val_main_v3, val_main_v2, val_main_v5, val_main_cst, val_main_cst_0]

/-- The crop's features, from the pooled ones. -/
def crop (X : FVec Ideal S128x128 .f32) (B : FVec Ideal S1x256 .f32) : FVec Ideal S128x256 .f32 :=
  addf (matmul dot_S128x128_S128x256_S128x256_1_0_0_1_n_n none (shapeCast S128x128 X shapeCasts_S128x128_S128x128) A6 (constant S128x256 .f32 0x00000000#32))
    (broadcastTo S128x256 (shapeCast S1x256 B shapeCasts_S1x256_S1x256) broadcasts_S1x256_S128x256)

/-- The trajectory's numbers followed by the crop's features. -/
def cat (T : FVec Ideal S128x12 .f32) (C : FVec Ideal S128x256 .f32) : FVec Ideal S128x268 .f32 :=
  concatenate S128x268 1 [⟨S128x12, shapeCast S128x12 T shapeCasts_S128x12_S128x12⟩, ⟨S128x256, C⟩] concatenates_S128x12_S128x256_S128x268_d1

/-- The hidden layer. -/
def hidden (C : FVec Ideal S128x268 .f32) (B : FVec Ideal S1x512 .f32) : FVec Ideal S128x512 .f32 :=
  maximumf (addf (matmul dot_S128x268_S268x512_S128x512_1_0_0_1_n_n none C A8 (constant S128x512 .f32 0x00000000#32))
    (broadcastTo S128x512 (shapeCast S1x512 B shapeCasts_S1x512_S1x512) broadcasts_S1x512_S128x512)) (broadcast S128x512 (Scalar.ofBits .f32 0x00000000#32))

/-- The last layer. -/
def last (H : FVec Ideal S128x512 .f32) (B : FVec Ideal S1x60 .f32) : FVec Ideal S128x60 .f32 :=
  addf (matmul dot_S128x512_S512x60_S128x60_1_0_0_1_n_n none H A10 (constant S128x60 .f32 0x00000000#32))
    (broadcastTo S128x60 (shapeCast S1x60 B shapeCasts_S1x60_S1x60) broadcasts_S1x60_S128x60)

/-- The kernel's formula is these layers one after another. -/
theorem layers (X : FVec Ideal S128x128 .f32) (T : FVec Ideal S128x12 .f32) (B7 : FVec Ideal S1x256 .f32) (B9 : FVec Ideal S1x512 .f32) (B11 : FVec Ideal S1x60 .f32) :
    k1_pay1 (F := Ideal) X A6 B7 T A8 B9 A10 B11 = last A10 (hidden A8 (cat T (crop A6 X B7)) B9) B11 := by
  chain_rfl

/-! Each layer is the reference's, over any input. -/

theorem crop_eq (Y : FVec Ideal S128x128 .f32) : crop A6 Y (shapeCast S1x256 A7 shapeCasts_S256_S1x256)
    = addf (Host.dotGeneral Cert.ReferenceIdeal.dot_S128x128_S128x256_S128x256_1_0_0_1_n_n none Y A6) (val_main_v10 (F := Ideal) A7) := by
  funext y
  idx_vars y
  pointwise [crop, val_main_v10, val_main_v9]

theorem cat_eq (Y : FVec Ideal S128x256 .f32) : cat (shapeCast S128x12 A0 shapeCasts_S8x16x12_S128x12) Y
    = shapeCast S128x268 (concatenate Cert.ReferenceIdeal.S8x16x268 2 [⟨S8x16x12, A0⟩, ⟨Cert.ReferenceIdeal.S8x16x256, shapeCast Cert.ReferenceIdeal.S8x16x256 Y Cert.ReferenceIdeal.Gen.shapeCasts_S128x256_S8x16x256⟩]
        Cert.ReferenceIdeal.Gen.concatenates_S8x16x12_S8x16x256_S8x16x268_d2) Cert.ReferenceIdeal.Gen.shapeCasts_S8x16x268_S128x268 := by
  funext y
  idx_vars y
  pointwise [cat]

theorem hidden_eq (Y : FVec Ideal S128x268 .f32) : hidden A8 Y (shapeCast S1x512 A9 shapeCasts_S512_S1x512)
    = maximumf (addf (Host.dotGeneral Cert.ReferenceIdeal.dot_S128x268_S268x512_S128x512_1_0_0_1_n_n none Y A8) (val_main_v17 (F := Ideal) A9)) (val_main_v19 (F := Ideal)) := by
  funext y
  idx_vars y
  pointwise [hidden, val_main_v17, val_main_v16, val_main_v19, val_main_cst_1]

theorem last_eq (Y : FVec Ideal S128x512 .f32) : last A10 Y (shapeCast S1x60 A11 shapeCasts_S60_S1x60)
    = addf (Host.dotGeneral Cert.ReferenceIdeal.dot_S128x512_S512x60_S128x60_1_0_0_1_n_n none Y A10) (val_main_v23 (F := Ideal) A11) := by
  funext y
  idx_vars y
  pointwise [last, val_main_v23, val_main_v22]

/-- The joints agree. -/
theorem joints_eq : KernelValue.joints A0 A1 A4 A5 A6 A7 A8 A9 A10 A11 = val_main_v24 (F := Ideal) A0 A1 A4 A5 A6 A7 A8 A9 A10 A11 := by
  unfold KernelValue.joints
  rw [layers, pooled, crop_eq, cat_eq, hidden_eq, last_eq]
  unfold val_main_v24 val_main_v21 val_main_v20 val_main_v18 val_main_v15 val_main_v14 val_main_v13 val_main_v12 val_main_v11 val_main_v8
  rfl

end Cert.RefJoints

end
-- ==== Proof.RefRot.lean ====
/- The reference's rotations, entry by entry. -/
module

public import proofs.«01_k».proof.Proof.Gen.ReferenceIdeal.Read
public import proofs.«01_k».proof.Proof.RotMath

@[expose] public section

set_option maxRecDepth 16384

noncomputable section

namespace Cert.RefRot

open Cert.ReferenceIdeal Cert.ReferenceIdeal.Read
open Idealize.ShloMosaic Idealize.ShloMosaic.TcCoe Idealize.SL.Sem

variable (A0 : FVec Ideal S8x16x12 .f32) (A1 : FVec Ideal S8x16x1024x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32)

/-- The template's joint `n + 1` relative to its first joint. -/
def bone (n : Fin 20) (k : Fin 3) : EReal := A3 (ix3 0 ⟨1 + n.val, by omega⟩ k) - A3 (ix3 0 0 k)

/-- The predicted joint `n + 1` of batch row `b`. -/
abbrev joint (b : Fin 128) (n : Fin 20) (k : Fin 3) : EReal := val_main_v25 (F := Ideal) A0 A1 A4 A5 A6 A7 A8 A9 A10 A11 (ix3 b n k)

local notation "bn" => bone A3
local notation "jt" => joint A0 A1 A4 A5 A6 A7 A8 A9 A10 A11

theorem v34_apply (n : Fin 20) (k : Fin 3) : val_main_v34 (F := Ideal) A3 (ix3 0 ⟨1 + n.val, by omega⟩ k) = bn n k := by
  pointwise [bone, val_main_v34, val_main_v33, val_main_v32]

theorem v31_apply (b : Fin 128) (n : Fin 20) (k : Fin 3) : val_main_v31 (F := Ideal) A0 A1 A4 A5 A6 A7 A8 A9 A10 A11 (ix3 b ⟨1 + n.val, by omega⟩ k) = jt b n k := by
  pointwise [val_main_v31, val_main_v28, val_main_v27, val_main_cst_2, val_main_v30, val_main_v29]

theorem v42_apply (n : Fin 20) : val_main_v42 (F := Ideal) A3 (ix3 0 ⟨1 + n.val, by omega⟩ 0) = Spec.len (bn n) := by
  simp only [Spec.len, ← v34_apply]
  pointwise [val_main_v42, val_main_v41, val_main_v40, val_main_v39, val_main_cst_4]

theorem v38_apply (b : Fin 128) (n : Fin 20) : val_main_v38 (F := Ideal) A0 A1 A4 A5 A6 A7 A8 A9 A10 A11 (ix3 b ⟨1 + n.val, by omega⟩ 0) = Spec.len (jt b n) := by
  simp only [Spec.len, ← v31_apply]
  pointwise [val_main_v38, val_main_v37, val_main_v36, val_main_v35, val_main_cst_3]

theorem v46_apply (n : Fin 20) (k : Fin 3) : val_main_v46 (F := Ideal) A3 (ix3 0 ⟨1 + n.val, by omega⟩ k) = Spec.dir (bn n) k := by
  simp only [Spec.dir, ← v34_apply, ← v42_apply, Spec.eps]
  pointwise [val_main_v46, val_main_v45, val_main_v44, val_main_v43, val_main_cst_5]

theorem v50_apply (b : Fin 128) (n : Fin 20) (k : Fin 3) : val_main_v50 (F := Ideal) A0 A1 A4 A5 A6 A7 A8 A9 A10 A11 (ix3 b ⟨1 + n.val, by omega⟩ k) = Spec.dir (jt b n) k := by
  simp only [Spec.dir, ← v31_apply, ← v38_apply, Spec.eps]
  pointwise [val_main_v50, val_main_v49, val_main_v48, val_main_v47, val_main_cst_6]

/-! The components of the axis. -/

theorem v81_0 (b : Fin 128) (n : Fin 20) : val_main_v81 (F := Ideal) A0 A1 A3 A4 A5 A6 A7 A8 A9 A10 A11 (ix3 b ⟨1 + n.val, by omega⟩ 0)
    = Spec.dir (bn n) 1 * Spec.dir (jt b n) 2 - Spec.dir (bn n) 2 * Spec.dir (jt b n) 1 := by
  simp only [← v46_apply, ← v50_apply]
  pointwise [val_main_v81, val_main_v78, val_main_v67, val_main_v64, val_main_v63, val_main_v54, val_main_v53, val_main_v62, val_main_v61, val_main_v66, val_main_v65, val_main_v56, val_main_v55, val_main_v60, val_main_v59, val_main_v79, val_main_v72, val_main_v69, val_main_v68, val_main_v58, val_main_v57, val_main_v71, val_main_v70, val_main_v52, val_main_v51, val_main_v80, val_main_v77, val_main_v74, val_main_v73, val_main_v76, val_main_v75]

theorem v81_1 (b : Fin 128) (n : Fin 20) : val_main_v81 (F := Ideal) A0 A1 A3 A4 A5 A6 A7 A8 A9 A10 A11 (ix3 b ⟨1 + n.val, by omega⟩ 1)
    = Spec.dir (bn n) 2 * Spec.dir (jt b n) 0 - Spec.dir (bn n) 0 * Spec.dir (jt b n) 2 := by
  simp only [← v46_apply, ← v50_apply]
  pointwise [val_main_v81, val_main_v78, val_main_v67, val_main_v64, val_main_v63, val_main_v54, val_main_v53, val_main_v62, val_main_v61, val_main_v66, val_main_v65, val_main_v56, val_main_v55, val_main_v60, val_main_v59, val_main_v79, val_main_v72, val_main_v69, val_main_v68, val_main_v58, val_main_v57, val_main_v71, val_main_v70, val_main_v52, val_main_v51, val_main_v80, val_main_v77, val_main_v74, val_main_v73, val_main_v76, val_main_v75]

theorem v81_2 (b : Fin 128) (n : Fin 20) : val_main_v81 (F := Ideal) A0 A1 A3 A4 A5 A6 A7 A8 A9 A10 A11 (ix3 b ⟨1 + n.val, by omega⟩ 2)
    = Spec.dir (bn n) 0 * Spec.dir (jt b n) 1 - Spec.dir (bn n) 1 * Spec.dir (jt b n) 0 := by
  simp only [← v46_apply, ← v50_apply]
  pointwise [val_main_v81, val_main_v78, val_main_v67, val_main_v64, val_main_v63, val_main_v54, val_main_v53, val_main_v62, val_main_v61, val_main_v66, val_main_v65, val_main_v56, val_main_v55, val_main_v60, val_main_v59, val_main_v79, val_main_v72, val_main_v69, val_main_v68, val_main_v58, val_main_v57, val_main_v71, val_main_v70, val_main_v52, val_main_v51, val_main_v80, val_main_v77, val_main_v74, val_main_v73, val_main_v76, val_main_v75]

theorem v81_apply (b : Fin 128) (n : Fin 20) (k : Fin 3) : val_main_v81 (F := Ideal) A0 A1 A3 A4 A5 A6 A7 A8 A9 A10 A11 (ix3 b ⟨1 + n.val, by omega⟩ k) = Spec.cross (Spec.dir (bn n)) (Spec.dir (jt b n)) k := by
  fin_cases k
  · exact v81_0 A0 A1 A3 A4 A5 A6 A7 A8 A9 A10 A11 b n
  · exact v81_1 A0 A1 A3 A4 A5 A6 A7 A8 A9 A10 A11 b n
  · exact v81_2 A0 A1 A3 A4 A5 A6 A7 A8 A9 A10 A11 b n

theorem v84_apply (b : Fin 128) (n : Fin 20) : val_main_v84 (F := Ideal) A0 A1 A3 A4 A5 A6 A7 A8 A9 A10 A11 (ix2 b ⟨1 + n.val, by omega⟩) = ∑ k, Spec.dir (bn n) k * Spec.dir (jt b n) k := by
  simp only [← v46_apply, ← v50_apply]
  pointwise [val_main_v84, val_main_v83, val_main_v82, val_main_cst_7]

theorem v86_apply (b : Fin 128) (n : Fin 20) : val_main_v86 (F := Ideal) A0 A1 A3 A4 A5 A6 A7 A8 A9 A10 A11 (ix2 b ⟨1 + n.val, by omega⟩) = ∑ k, Spec.cross (Spec.dir (bn n)) (Spec.dir (jt b n)) k * Spec.cross (Spec.dir (bn n)) (Spec.dir (jt b n)) k := by
  simp only [← v81_apply]
  pointwise [val_main_v86, val_main_v85, val_main_cst_8]

theorem v125_apply (b : Fin 128) (n : Fin 20) : val_main_v125 (F := Ideal) A0 A1 A3 A4 A5 A6 A7 A8 A9 A10 A11 (ix2 b ⟨1 + n.val, by omega⟩) = Ideal.div (1 - ∑ k, Spec.dir (bn n) k * Spec.dir (jt b n) k)
    ((∑ k, Spec.cross (Spec.dir (bn n)) (Spec.dir (jt b n)) k * Spec.cross (Spec.dir (bn n)) (Spec.dir (jt b n)) k) + Spec.eps) := by
  simp only [← v84_apply, ← v86_apply, Spec.eps]
  pointwise [val_main_v125, val_main_v122, val_main_v121, val_main_cst_10, val_main_v124, val_main_v123, val_main_cst_11]

theorem one_bit_1 (b : BitVec 1) (h : b = 1#1) : (FloatOps.uitofp .f32 b : Ideal .f32) = 1 := by
  subst h; simp [FloatOps.uitofp]

theorem one_bit_0 (b : BitVec 1) (h : b = 0#1) : (FloatOps.uitofp .f32 b : Ideal .f32) = 0 := by
  subst h; simp [FloatOps.uitofp]

theorem select_or {α : Type} (p q : Prop) [Decidable p] [Decidable q] [Decidable (p ∨ q)] (x y : α) :
    Scalar.select (IntOp.ori (BitVec.ofBool (decide p)) (BitVec.ofBool (decide q))) x y = if p ∨ q then x else y := by
  by_cases hp : p <;> by_cases hq : q <;> simp [Scalar.select, IntOp.ori, hp, hq]

theorem v120_00 (b : Fin 128) (n : Fin 20) : val_main_v120 (F := Ideal) A0 A1 A3 A4 A5 A6 A7 A8 A9 A10 A11 (ix4 b ⟨1 + n.val, by omega⟩ 0 0) = 0 := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_01 (b : Fin 128) (n : Fin 20) : val_main_v120 (F := Ideal) A0 A1 A3 A4 A5 A6 A7 A8 A9 A10 A11 (ix4 b ⟨1 + n.val, by omega⟩ 0 1) = -val_main_v81 (F := Ideal) A0 A1 A3 A4 A5 A6 A7 A8 A9 A10 A11 (ix3 b ⟨1 + n.val, by omega⟩ 2) := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_02 (b : Fin 128) (n : Fin 20) : val_main_v120 (F := Ideal) A0 A1 A3 A4 A5 A6 A7 A8 A9 A10 A11 (ix4 b ⟨1 + n.val, by omega⟩ 0 2) = val_main_v81 (F := Ideal) A0 A1 A3 A4 A5 A6 A7 A8 A9 A10 A11 (ix3 b ⟨1 + n.val, by omega⟩ 1) := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_10 (b : Fin 128) (n : Fin 20) : val_main_v120 (F := Ideal) A0 A1 A3 A4 A5 A6 A7 A8 A9 A10 A11 (ix4 b ⟨1 + n.val, by omega⟩ 1 0) = val_main_v81 (F := Ideal) A0 A1 A3 A4 A5 A6 A7 A8 A9 A10 A11 (ix3 b ⟨1 + n.val, by omega⟩ 2) := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_11 (b : Fin 128) (n : Fin 20) : val_main_v120 (F := Ideal) A0 A1 A3 A4 A5 A6 A7 A8 A9 A10 A11 (ix4 b ⟨1 + n.val, by omega⟩ 1 1) = 0 := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_12 (b : Fin 128) (n : Fin 20) : val_main_v120 (F := Ideal) A0 A1 A3 A4 A5 A6 A7 A8 A9 A10 A11 (ix4 b ⟨1 + n.val, by omega⟩ 1 2) = -val_main_v81 (F := Ideal) A0 A1 A3 A4 A5 A6 A7 A8 A9 A10 A11 (ix3 b ⟨1 + n.val, by omega⟩ 0) := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_20 (b : Fin 128) (n : Fin 20) : val_main_v120 (F := Ideal) A0 A1 A3 A4 A5 A6 A7 A8 A9 A10 A11 (ix4 b ⟨1 + n.val, by omega⟩ 2 0) = -val_main_v81 (F := Ideal) A0 A1 A3 A4 A5 A6 A7 A8 A9 A10 A11 (ix3 b ⟨1 + n.val, by omega⟩ 1) := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_21 (b : Fin 128) (n : Fin 20) : val_main_v120 (F := Ideal) A0 A1 A3 A4 A5 A6 A7 A8 A9 A10 A11 (ix4 b ⟨1 + n.val, by omega⟩ 2 1) = val_main_v81 (F := Ideal) A0 A1 A3 A4 A5 A6 A7 A8 A9 A10 A11 (ix3 b ⟨1 + n.val, by omega⟩ 0) := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_22 (b : Fin 128) (n : Fin 20) : val_main_v120 (F := Ideal) A0 A1 A3 A4 A5 A6 A7 A8 A9 A10 A11 (ix4 b ⟨1 + n.val, by omega⟩ 2 2) = 0 := by
  pointwise [val_main_v120, val_main_v117, val_main_v98, val_main_v95, val_main_v89, val_main_cst_9, val_main_v96, val_main_v92, val_main_v91, val_main_v90, val_main_v97, val_main_v94, val_main_v93, val_main_v118, val_main_v107, val_main_v104, val_main_v100, val_main_v99, val_main_v105, val_main_v106, val_main_v103, val_main_v102, val_main_v101, val_main_v119, val_main_v116, val_main_v113, val_main_v110, val_main_v109, val_main_v108, val_main_v114, val_main_v112, val_main_v111, val_main_v115]

theorem v120_apply (b : Fin 128) (n : Fin 20) (i k : Fin 3) : val_main_v120 (F := Ideal) A0 A1 A3 A4 A5 A6 A7 A8 A9 A10 A11 (ix4 b ⟨1 + n.val, by omega⟩ i k) = Spec.skew (fun k => val_main_v81 (F := Ideal) A0 A1 A3 A4 A5 A6 A7 A8 A9 A10 A11 (ix3 b ⟨1 + n.val, by omega⟩ k)) i k := by
  fin_cases i <;> fin_cases k
  · exact v120_00 A0 A1 A3 A4 A5 A6 A7 A8 A9 A10 A11 b n
  · exact v120_01 A0 A1 A3 A4 A5 A6 A7 A8 A9 A10 A11 b n
  · exact v120_02 A0 A1 A3 A4 A5 A6 A7 A8 A9 A10 A11 b n
  · exact v120_10 A0 A1 A3 A4 A5 A6 A7 A8 A9 A10 A11 b n
  · exact v120_11 A0 A1 A3 A4 A5 A6 A7 A8 A9 A10 A11 b n
  · exact v120_12 A0 A1 A3 A4 A5 A6 A7 A8 A9 A10 A11 b n
  · exact v120_20 A0 A1 A3 A4 A5 A6 A7 A8 A9 A10 A11 b n
  · exact v120_21 A0 A1 A3 A4 A5 A6 A7 A8 A9 A10 A11 b n
  · exact v120_22 A0 A1 A3 A4 A5 A6 A7 A8 A9 A10 A11 b n

theorem v133_00 (b : Fin 128) (n : Fin 20) : val_main_v133 (F := Ideal) (ix4 b ⟨1 + n.val, by omega⟩ 0 0) = 1 := by
  pointwise [val_main_v133, val_main_v132, val_main_v131, val_main_v130, val_main_v129, val_main_v126, val_main_v128, val_main_c, val_main_v127]
  exact one_bit_1 _ (by decide)

theorem v133_01 (b : Fin 128) (n : Fin 20) : val_main_v133 (F := Ideal) (ix4 b ⟨1 + n.val, by omega⟩ 0 1) = 0 := by
  pointwise [val_main_v133, val_main_v132, val_main_v131, val_main_v130, val_main_v129, val_main_v126, val_main_v128, val_main_c, val_main_v127]
  exact one_bit_0 _ (by decide)

theorem v133_02 (b : Fin 128) (n : Fin 20) : val_main_v133 (F := Ideal) (ix4 b ⟨1 + n.val, by omega⟩ 0 2) = 0 := by
  pointwise [val_main_v133, val_main_v132, val_main_v131, val_main_v130, val_main_v129, val_main_v126, val_main_v128, val_main_c, val_main_v127]
  exact one_bit_0 _ (by decide)

theorem v133_10 (b : Fin 128) (n : Fin 20) : val_main_v133 (F := Ideal) (ix4 b ⟨1 + n.val, by omega⟩ 1 0) = 0 := by
  pointwise [val_main_v133, val_main_v132, val_main_v131, val_main_v130, val_main_v129, val_main_v126, val_main_v128, val_main_c, val_main_v127]
  exact one_bit_0 _ (by decide)

theorem v133_11 (b : Fin 128) (n : Fin 20) : val_main_v133 (F := Ideal) (ix4 b ⟨1 + n.val, by omega⟩ 1 1) = 1 := by
  pointwise [val_main_v133, val_main_v132, val_main_v131, val_main_v130, val_main_v129, val_main_v126, val_main_v128, val_main_c, val_main_v127]
  exact one_bit_1 _ (by decide)

theorem v133_12 (b : Fin 128) (n : Fin 20) : val_main_v133 (F := Ideal) (ix4 b ⟨1 + n.val, by omega⟩ 1 2) = 0 := by
  pointwise [val_main_v133, val_main_v132, val_main_v131, val_main_v130, val_main_v129, val_main_v126, val_main_v128, val_main_c, val_main_v127]
  exact one_bit_0 _ (by decide)

theorem v133_20 (b : Fin 128) (n : Fin 20) : val_main_v133 (F := Ideal) (ix4 b ⟨1 + n.val, by omega⟩ 2 0) = 0 := by
  pointwise [val_main_v133, val_main_v132, val_main_v131, val_main_v130, val_main_v129, val_main_v126, val_main_v128, val_main_c, val_main_v127]
  exact one_bit_0 _ (by decide)

theorem v133_21 (b : Fin 128) (n : Fin 20) : val_main_v133 (F := Ideal) (ix4 b ⟨1 + n.val, by omega⟩ 2 1) = 0 := by
  pointwise [val_main_v133, val_main_v132, val_main_v131, val_main_v130, val_main_v129, val_main_v126, val_main_v128, val_main_c, val_main_v127]
  exact one_bit_0 _ (by decide)

theorem v133_22 (b : Fin 128) (n : Fin 20) : val_main_v133 (F := Ideal) (ix4 b ⟨1 + n.val, by omega⟩ 2 2) = 1 := by
  pointwise [val_main_v133, val_main_v132, val_main_v131, val_main_v130, val_main_v129, val_main_v126, val_main_v128, val_main_c, val_main_v127]
  exact one_bit_1 _ (by decide)

theorem v133_apply (b : Fin 128) (n : Fin 20) (i k : Fin 3) : val_main_v133 (F := Ideal) (ix4 b ⟨1 + n.val, by omega⟩ i k) = if i = k then 1 else 0 := by
  fin_cases i <;> fin_cases k
  · exact v133_00 b n
  · exact v133_01 b n
  · exact v133_02 b n
  · exact v133_10 b n
  · exact v133_11 b n
  · exact v133_12 b n
  · exact v133_20 b n
  · exact v133_21 b n
  · exact v133_22 b n

theorem v139_apply (b : Fin 128) (n : Fin 20) (i k : Fin 3) : val_main_v139 (F := Ideal) A0 A1 A3 A4 A5 A6 A7 A8 A9 A10 A11 (ix4 b ⟨1 + n.val, by omega⟩ i k) =
    (val_main_v133 (F := Ideal) (ix4 b ⟨1 + n.val, by omega⟩ i k) + val_main_v120 (F := Ideal) A0 A1 A3 A4 A5 A6 A7 A8 A9 A10 A11 (ix4 b ⟨1 + n.val, by omega⟩ i k)) + (∑ j, val_main_v120 (F := Ideal) A0 A1 A3 A4 A5 A6 A7 A8 A9 A10 A11 (ix4 b ⟨1 + n.val, by omega⟩ i j) * val_main_v120 (F := Ideal) A0 A1 A3 A4 A5 A6 A7 A8 A9 A10 A11 (ix4 b ⟨1 + n.val, by omega⟩ j k)) * val_main_v125 (F := Ideal) A0 A1 A3 A4 A5 A6 A7 A8 A9 A10 A11 (ix2 b ⟨1 + n.val, by omega⟩) := by
  pointwise [val_main_v139, val_main_v134, val_main_v138, val_main_v135, val_main_v137, val_main_v136]

open Classical in
theorem v150_apply (b : Fin 128) (n : Fin 20) (i k : Fin 3) : val_main_v150 (F := Ideal) A0 A1 A3 A4 A5 A6 A7 A8 A9 A10 A11 (ix4 b n i k) =
    if Spec.Short (bn n) (jt b n) then (if i = k then 1 else 0) else val_main_v139 (F := Ideal) A0 A1 A3 A4 A5 A6 A7 A8 A9 A10 A11 (ix4 b ⟨1 + n.val, by omega⟩ i k) := by
  simp only [Spec.Short, ← v38_apply, ← v42_apply, ← v133_apply b n, Spec.tiny]
  pointwise [val_main_v150, val_main_v149, val_main_call0_v0, val_main_v148, val_main_v147, val_main_v142, val_main_v140, val_main_v141, val_main_cst_12, val_main_v146, val_main_v145, val_main_v143, val_main_v144, val_main_cst_13, val_main_call0_v1, val_main_v131, val_main_v130, val_main_v129, val_main_v126, val_main_v128, val_main_c, val_main_v127, val_main_v133, val_main_v132]
  exact select_or _ _ _ _

/-- The reference's rotation is the rotation of the two vectors. -/
theorem rotation (b : Fin 128) (n : Fin 20) (i k : Fin 3) : val_main_v150 (F := Ideal) A0 A1 A3 A4 A5 A6 A7 A8 A9 A10 A11 (ix4 b n i k) = Spec.rot (bn n) (jt b n) i k := by
  rw [v150_apply, v139_apply, Spec.rot_eq]
  simp only [v120_apply, v133_apply, v125_apply, v81_apply]

end Cert.RefRot

end
-- ==== Proof.PoolMath.lean ====
/- Pooling over the places of an order that holds every marked point is pooling over the points. -/
module

public import proofs.«01_k».proof.Proof.Spec
public import proofs.«01_k».proof.Proof.Consts

@[expose] public section

set_option maxRecDepth 16384

noncomputable section

namespace Cert.Spec

open Idealize.ShloMosaic

theorem poolOver_places {M N : ℕ} (f : Fin M → Fin N) (near : Fin N → Prop) (nearAt : Fin M → Prop) (hf : Fin N → EReal) (hfAt : Fin M → EReal)
    (hn : ∀ s, nearAt s ↔ near (f s)) (hv : ∀ s, near (f s) → hfAt s = hf (f s)) (hs : ∀ p, near p → ∃ s, f s = p) (h0 : ∀ p, 0 ≤ hf p) :
    poolOver nearAt hfAt = poolOver near hf := by
  have hlow : ∀ p, Ideal.ofBits .f32 0xCE6E6B28#32 ≤ hf p := fun p => low_neg.trans (h0 p)
  have hex : (∃ s, nearAt s) ↔ ∃ p, near p := by
    constructor
    · rintro ⟨s, h⟩; exact ⟨f s, (hn s).1 h⟩
    · rintro ⟨p, h⟩
      obtain ⟨s, rfl⟩ := hs p h
      exact ⟨s, (hn s).2 h⟩
  unfold poolOver
  by_cases h : ∃ p, near p
  · rw [if_pos h, if_pos (hex.2 h)]
    obtain ⟨p0, hp0⟩ := h
    obtain ⟨s0, rfl⟩ := hs p0 hp0
    apply le_antisymm
    · refine Finset.fold_max_le _ |>.2 ⟨?_, fun s _ => ?_⟩
      · exact Finset.le_fold_max _ |>.2 (Or.inl le_rfl)
      · refine Finset.le_fold_max _ |>.2 (Or.inr ?_)
        by_cases hsn : nearAt s
        · refine ⟨f s, Finset.mem_univ _, ?_⟩
          rw [if_pos hsn, if_pos ((hn s).1 hsn), hv s ((hn s).1 hsn)]
        · refine ⟨f s0, Finset.mem_univ _, ?_⟩
          rw [if_neg hsn, if_pos hp0]
          exact hlow _
    · refine Finset.fold_max_le _ |>.2 ⟨?_, fun p _ => ?_⟩
      · exact Finset.le_fold_max _ |>.2 (Or.inl le_rfl)
      · refine Finset.le_fold_max _ |>.2 (Or.inr ?_)
        by_cases hpn : near p
        · obtain ⟨s, rfl⟩ := hs p hpn
          refine ⟨s, Finset.mem_univ _, ?_⟩
          rw [if_pos hpn, if_pos ((hn s).2 hpn), hv s hpn]
        · refine ⟨s0, Finset.mem_univ _, ?_⟩
          rw [if_neg hpn, if_pos ((hn s0).2 hp0), hv s0 hp0]
          exact hlow _
  · rw [if_neg h, if_neg fun h' => h (hex.1 h')]

end Cert.Spec

end
-- ==== Proof.RefFeat.lean ====
/- The reference's features at a place: the rigid inverse applied to the point with a one appended, then the linear layer. -/
module

public import proofs.«01_k».proof.Proof.Gen.ReferenceIdeal.Read
public import proofs.«01_k».proof.Proof.Spec
public import proofs.«01_k».proof.Proof.RefPoints
public import proofs.«01_k».proof.Proof.RotMath

@[expose] public section

set_option maxRecDepth 16384

noncomputable section

namespace Cert.RefFeat

open Cert.ReferenceIdeal Cert.ReferenceIdeal.Read
open Idealize.ShloMosaic Idealize.ShloMosaic.TcCoe Idealize.SL.Sem

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32)

theorem v193_0 (b : Fin 128) (n : Fin 20) (s : Fin 300) : val_main_v193 (F := Ideal) A0 A1 A2 A4 A5 A6 A7 A8 A9 A10 A11 (ix4 b n s 0) = val_main_v181 (F := Ideal) A0 A1 A2 A4 A5 A6 A7 A8 A9 A10 A11 (ix4 b n s 0) := by
  pointwise [val_main_v193, val_main_v191, val_main_v192, val_main_cst_22]

theorem v200_0 (b : Fin 128) (n : Fin 20) (s : Fin 300) : val_main_v200 (F := Ideal) A0 A1 A2 A4 A5 A6 A7 A8 A9 A10 A11 (ix4 b n s 0) = val_main_v181 (F := Ideal) A0 A1 A2 A4 A5 A6 A7 A8 A9 A10 A11 (ix4 b n s 3) := by
  pointwise [val_main_v200]

theorem v193_1 (b : Fin 128) (n : Fin 20) (s : Fin 300) : val_main_v193 (F := Ideal) A0 A1 A2 A4 A5 A6 A7 A8 A9 A10 A11 (ix4 b n s 1) = val_main_v181 (F := Ideal) A0 A1 A2 A4 A5 A6 A7 A8 A9 A10 A11 (ix4 b n s 1) := by
  pointwise [val_main_v193, val_main_v191, val_main_v192, val_main_cst_22]

theorem v200_1 (b : Fin 128) (n : Fin 20) (s : Fin 300) : val_main_v200 (F := Ideal) A0 A1 A2 A4 A5 A6 A7 A8 A9 A10 A11 (ix4 b n s 1) = val_main_v181 (F := Ideal) A0 A1 A2 A4 A5 A6 A7 A8 A9 A10 A11 (ix4 b n s 4) := by
  pointwise [val_main_v200]

theorem v193_2 (b : Fin 128) (n : Fin 20) (s : Fin 300) : val_main_v193 (F := Ideal) A0 A1 A2 A4 A5 A6 A7 A8 A9 A10 A11 (ix4 b n s 2) = val_main_v181 (F := Ideal) A0 A1 A2 A4 A5 A6 A7 A8 A9 A10 A11 (ix4 b n s 2) := by
  pointwise [val_main_v193, val_main_v191, val_main_v192, val_main_cst_22]

theorem v200_2 (b : Fin 128) (n : Fin 20) (s : Fin 300) : val_main_v200 (F := Ideal) A0 A1 A2 A4 A5 A6 A7 A8 A9 A10 A11 (ix4 b n s 2) = val_main_v181 (F := Ideal) A0 A1 A2 A4 A5 A6 A7 A8 A9 A10 A11 (ix4 b n s 5) := by
  pointwise [val_main_v200]

theorem v193_3 (b : Fin 128) (n : Fin 20) (s : Fin 300) : val_main_v193 (F := Ideal) A0 A1 A2 A4 A5 A6 A7 A8 A9 A10 A11 (ix4 b n s 3) = 1 := by
  pointwise [val_main_v193, val_main_v191, val_main_v192, val_main_cst_22]

theorem v183_apply (b : Fin 128) (n : Fin 20) (j : Fin 3) : val_main_v183 (F := Ideal) A0 A1 A3 A4 A5 A6 A7 A8 A9 A10 A11 (ix3 b n j) = ∑ a : Fin 3, val_main_v150 (F := Ideal) A0 A1 A3 A4 A5 A6 A7 A8 A9 A10 A11 (ix4 b n a j) * val_main_v151 (F := Ideal) A0 A1 A4 A5 A6 A7 A8 A9 A10 A11 (ix3 b n a) := by
  pointwise [val_main_v183, val_main_v182]

theorem v190_00 (b : Fin 128) (n : Fin 20) : val_main_v190 (F := Ideal) A0 A1 A3 A4 A5 A6 A7 A8 A9 A10 A11 (ix4 b n 0 0) = val_main_v150 (F := Ideal) A0 A1 A3 A4 A5 A6 A7 A8 A9 A10 A11 (ix4 b n 0 0) := by
  pointwise [val_main_v190, val_main_v189, val_main_v182, val_main_v188, val_main_v184, val_main_v187, val_main_v185, val_main_cst_20, val_main_v186, val_main_cst_21]

theorem v199_00 (b : Fin 128) (n : Fin 20) : val_main_v199 (F := Ideal) A0 A1 A3 A4 A5 A6 A7 A8 A9 A10 A11 (ix4 b n 0 0) = val_main_v150 (F := Ideal) A0 A1 A3 A4 A5 A6 A7 A8 A9 A10 A11 (ix4 b n 0 0) := by
  pointwise [val_main_v199, val_main_v190, val_main_v189, val_main_v182, val_main_v188, val_main_v184, val_main_v187, val_main_v185, val_main_cst_20, val_main_v186, val_main_cst_21]

theorem v190_01 (b : Fin 128) (n : Fin 20) : val_main_v190 (F := Ideal) A0 A1 A3 A4 A5 A6 A7 A8 A9 A10 A11 (ix4 b n 0 1) = val_main_v150 (F := Ideal) A0 A1 A3 A4 A5 A6 A7 A8 A9 A10 A11 (ix4 b n 1 0) := by
  pointwise [val_main_v190, val_main_v189, val_main_v182, val_main_v188, val_main_v184, val_main_v187, val_main_v185, val_main_cst_20, val_main_v186, val_main_cst_21]

theorem v199_01 (b : Fin 128) (n : Fin 20) : val_main_v199 (F := Ideal) A0 A1 A3 A4 A5 A6 A7 A8 A9 A10 A11 (ix4 b n 0 1) = val_main_v150 (F := Ideal) A0 A1 A3 A4 A5 A6 A7 A8 A9 A10 A11 (ix4 b n 1 0) := by
  pointwise [val_main_v199, val_main_v190, val_main_v189, val_main_v182, val_main_v188, val_main_v184, val_main_v187, val_main_v185, val_main_cst_20, val_main_v186, val_main_cst_21]

theorem v190_02 (b : Fin 128) (n : Fin 20) : val_main_v190 (F := Ideal) A0 A1 A3 A4 A5 A6 A7 A8 A9 A10 A11 (ix4 b n 0 2) = val_main_v150 (F := Ideal) A0 A1 A3 A4 A5 A6 A7 A8 A9 A10 A11 (ix4 b n 2 0) := by
  pointwise [val_main_v190, val_main_v189, val_main_v182, val_main_v188, val_main_v184, val_main_v187, val_main_v185, val_main_cst_20, val_main_v186, val_main_cst_21]

theorem v199_02 (b : Fin 128) (n : Fin 20) : val_main_v199 (F := Ideal) A0 A1 A3 A4 A5 A6 A7 A8 A9 A10 A11 (ix4 b n 0 2) = val_main_v150 (F := Ideal) A0 A1 A3 A4 A5 A6 A7 A8 A9 A10 A11 (ix4 b n 2 0) := by
  pointwise [val_main_v199, val_main_v190, val_main_v189, val_main_v182, val_main_v188, val_main_v184, val_main_v187, val_main_v185, val_main_cst_20, val_main_v186, val_main_cst_21]

theorem v190_03 (b : Fin 128) (n : Fin 20) : val_main_v190 (F := Ideal) A0 A1 A3 A4 A5 A6 A7 A8 A9 A10 A11 (ix4 b n 0 3) = -val_main_v183 (F := Ideal) A0 A1 A3 A4 A5 A6 A7 A8 A9 A10 A11 (ix3 b n 0) := by
  pointwise [val_main_v190, val_main_v189, val_main_v182, val_main_v188, val_main_v184, val_main_v187, val_main_v185, val_main_cst_20, val_main_v186, val_main_cst_21]

theorem v190_30 (b : Fin 128) (n : Fin 20) : val_main_v190 (F := Ideal) A0 A1 A3 A4 A5 A6 A7 A8 A9 A10 A11 (ix4 b n 3 0) = 0 := by
  pointwise [val_main_v190, val_main_v189, val_main_v182, val_main_v188, val_main_v184, val_main_v187, val_main_v185, val_main_cst_20, val_main_v186, val_main_cst_21]

theorem v190_10 (b : Fin 128) (n : Fin 20) : val_main_v190 (F := Ideal) A0 A1 A3 A4 A5 A6 A7 A8 A9 A10 A11 (ix4 b n 1 0) = val_main_v150 (F := Ideal) A0 A1 A3 A4 A5 A6 A7 A8 A9 A10 A11 (ix4 b n 0 1) := by
  pointwise [val_main_v190, val_main_v189, val_main_v182, val_main_v188, val_main_v184, val_main_v187, val_main_v185, val_main_cst_20, val_main_v186, val_main_cst_21]

theorem v199_10 (b : Fin 128) (n : Fin 20) : val_main_v199 (F := Ideal) A0 A1 A3 A4 A5 A6 A7 A8 A9 A10 A11 (ix4 b n 1 0) = val_main_v150 (F := Ideal) A0 A1 A3 A4 A5 A6 A7 A8 A9 A10 A11 (ix4 b n 0 1) := by
  pointwise [val_main_v199, val_main_v190, val_main_v189, val_main_v182, val_main_v188, val_main_v184, val_main_v187, val_main_v185, val_main_cst_20, val_main_v186, val_main_cst_21]

theorem v190_11 (b : Fin 128) (n : Fin 20) : val_main_v190 (F := Ideal) A0 A1 A3 A4 A5 A6 A7 A8 A9 A10 A11 (ix4 b n 1 1) = val_main_v150 (F := Ideal) A0 A1 A3 A4 A5 A6 A7 A8 A9 A10 A11 (ix4 b n 1 1) := by
  pointwise [val_main_v190, val_main_v189, val_main_v182, val_main_v188, val_main_v184, val_main_v187, val_main_v185, val_main_cst_20, val_main_v186, val_main_cst_21]

theorem v199_11 (b : Fin 128) (n : Fin 20) : val_main_v199 (F := Ideal) A0 A1 A3 A4 A5 A6 A7 A8 A9 A10 A11 (ix4 b n 1 1) = val_main_v150 (F := Ideal) A0 A1 A3 A4 A5 A6 A7 A8 A9 A10 A11 (ix4 b n 1 1) := by
  pointwise [val_main_v199, val_main_v190, val_main_v189, val_main_v182, val_main_v188, val_main_v184, val_main_v187, val_main_v185, val_main_cst_20, val_main_v186, val_main_cst_21]

theorem v190_12 (b : Fin 128) (n : Fin 20) : val_main_v190 (F := Ideal) A0 A1 A3 A4 A5 A6 A7 A8 A9 A10 A11 (ix4 b n 1 2) = val_main_v150 (F := Ideal) A0 A1 A3 A4 A5 A6 A7 A8 A9 A10 A11 (ix4 b n 2 1) := by
  pointwise [val_main_v190, val_main_v189, val_main_v182, val_main_v188, val_main_v184, val_main_v187, val_main_v185, val_main_cst_20, val_main_v186, val_main_cst_21]

theorem v199_12 (b : Fin 128) (n : Fin 20) : val_main_v199 (F := Ideal) A0 A1 A3 A4 A5 A6 A7 A8 A9 A10 A11 (ix4 b n 1 2) = val_main_v150 (F := Ideal) A0 A1 A3 A4 A5 A6 A7 A8 A9 A10 A11 (ix4 b n 2 1) := by
  pointwise [val_main_v199, val_main_v190, val_main_v189, val_main_v182, val_main_v188, val_main_v184, val_main_v187, val_main_v185, val_main_cst_20, val_main_v186, val_main_cst_21]

theorem v190_13 (b : Fin 128) (n : Fin 20) : val_main_v190 (F := Ideal) A0 A1 A3 A4 A5 A6 A7 A8 A9 A10 A11 (ix4 b n 1 3) = -val_main_v183 (F := Ideal) A0 A1 A3 A4 A5 A6 A7 A8 A9 A10 A11 (ix3 b n 1) := by
  pointwise [val_main_v190, val_main_v189, val_main_v182, val_main_v188, val_main_v184, val_main_v187, val_main_v185, val_main_cst_20, val_main_v186, val_main_cst_21]

theorem v190_31 (b : Fin 128) (n : Fin 20) : val_main_v190 (F := Ideal) A0 A1 A3 A4 A5 A6 A7 A8 A9 A10 A11 (ix4 b n 3 1) = 0 := by
  pointwise [val_main_v190, val_main_v189, val_main_v182, val_main_v188, val_main_v184, val_main_v187, val_main_v185, val_main_cst_20, val_main_v186, val_main_cst_21]

theorem v190_20 (b : Fin 128) (n : Fin 20) : val_main_v190 (F := Ideal) A0 A1 A3 A4 A5 A6 A7 A8 A9 A10 A11 (ix4 b n 2 0) = val_main_v150 (F := Ideal) A0 A1 A3 A4 A5 A6 A7 A8 A9 A10 A11 (ix4 b n 0 2) := by
  pointwise [val_main_v190, val_main_v189, val_main_v182, val_main_v188, val_main_v184, val_main_v187, val_main_v185, val_main_cst_20, val_main_v186, val_main_cst_21]

theorem v199_20 (b : Fin 128) (n : Fin 20) : val_main_v199 (F := Ideal) A0 A1 A3 A4 A5 A6 A7 A8 A9 A10 A11 (ix4 b n 2 0) = val_main_v150 (F := Ideal) A0 A1 A3 A4 A5 A6 A7 A8 A9 A10 A11 (ix4 b n 0 2) := by
  pointwise [val_main_v199, val_main_v190, val_main_v189, val_main_v182, val_main_v188, val_main_v184, val_main_v187, val_main_v185, val_main_cst_20, val_main_v186, val_main_cst_21]

theorem v190_21 (b : Fin 128) (n : Fin 20) : val_main_v190 (F := Ideal) A0 A1 A3 A4 A5 A6 A7 A8 A9 A10 A11 (ix4 b n 2 1) = val_main_v150 (F := Ideal) A0 A1 A3 A4 A5 A6 A7 A8 A9 A10 A11 (ix4 b n 1 2) := by
  pointwise [val_main_v190, val_main_v189, val_main_v182, val_main_v188, val_main_v184, val_main_v187, val_main_v185, val_main_cst_20, val_main_v186, val_main_cst_21]

theorem v199_21 (b : Fin 128) (n : Fin 20) : val_main_v199 (F := Ideal) A0 A1 A3 A4 A5 A6 A7 A8 A9 A10 A11 (ix4 b n 2 1) = val_main_v150 (F := Ideal) A0 A1 A3 A4 A5 A6 A7 A8 A9 A10 A11 (ix4 b n 1 2) := by
  pointwise [val_main_v199, val_main_v190, val_main_v189, val_main_v182, val_main_v188, val_main_v184, val_main_v187, val_main_v185, val_main_cst_20, val_main_v186, val_main_cst_21]

theorem v190_22 (b : Fin 128) (n : Fin 20) : val_main_v190 (F := Ideal) A0 A1 A3 A4 A5 A6 A7 A8 A9 A10 A11 (ix4 b n 2 2) = val_main_v150 (F := Ideal) A0 A1 A3 A4 A5 A6 A7 A8 A9 A10 A11 (ix4 b n 2 2) := by
  pointwise [val_main_v190, val_main_v189, val_main_v182, val_main_v188, val_main_v184, val_main_v187, val_main_v185, val_main_cst_20, val_main_v186, val_main_cst_21]

theorem v199_22 (b : Fin 128) (n : Fin 20) : val_main_v199 (F := Ideal) A0 A1 A3 A4 A5 A6 A7 A8 A9 A10 A11 (ix4 b n 2 2) = val_main_v150 (F := Ideal) A0 A1 A3 A4 A5 A6 A7 A8 A9 A10 A11 (ix4 b n 2 2) := by
  pointwise [val_main_v199, val_main_v190, val_main_v189, val_main_v182, val_main_v188, val_main_v184, val_main_v187, val_main_v185, val_main_cst_20, val_main_v186, val_main_cst_21]

theorem v190_23 (b : Fin 128) (n : Fin 20) : val_main_v190 (F := Ideal) A0 A1 A3 A4 A5 A6 A7 A8 A9 A10 A11 (ix4 b n 2 3) = -val_main_v183 (F := Ideal) A0 A1 A3 A4 A5 A6 A7 A8 A9 A10 A11 (ix3 b n 2) := by
  pointwise [val_main_v190, val_main_v189, val_main_v182, val_main_v188, val_main_v184, val_main_v187, val_main_v185, val_main_cst_20, val_main_v186, val_main_cst_21]

theorem v190_32 (b : Fin 128) (n : Fin 20) : val_main_v190 (F := Ideal) A0 A1 A3 A4 A5 A6 A7 A8 A9 A10 A11 (ix4 b n 3 2) = 0 := by
  pointwise [val_main_v190, val_main_v189, val_main_v182, val_main_v188, val_main_v184, val_main_v187, val_main_v185, val_main_cst_20, val_main_v186, val_main_cst_21]

theorem v190_33 (b : Fin 128) (n : Fin 20) : val_main_v190 (F := Ideal) A0 A1 A3 A4 A5 A6 A7 A8 A9 A10 A11 (ix4 b n 3 3) = 1 := by
  pointwise [val_main_v190, val_main_v189, val_main_v182, val_main_v188, val_main_v184, val_main_v187, val_main_v185, val_main_cst_20, val_main_v186, val_main_cst_21]

theorem v194_apply (b : Fin 128) (n : Fin 20) (s : Fin 300) (j : Fin 4) : val_main_v194 (F := Ideal) A0 A1 A2 A3 A4 A5 A6 A7 A8 A9 A10 A11 (ix4 b n s j) = ∑ a : Fin 4, val_main_v193 (F := Ideal) A0 A1 A2 A4 A5 A6 A7 A8 A9 A10 A11 (ix4 b n s a) * val_main_v190 (F := Ideal) A0 A1 A3 A4 A5 A6 A7 A8 A9 A10 A11 (ix4 b n j a) := by
  pointwise [val_main_v194]

theorem v201_apply (b : Fin 128) (n : Fin 20) (s : Fin 300) (j : Fin 3) : val_main_v201 (F := Ideal) A0 A1 A2 A3 A4 A5 A6 A7 A8 A9 A10 A11 (ix4 b n s j) = ∑ a : Fin 3, val_main_v200 (F := Ideal) A0 A1 A2 A4 A5 A6 A7 A8 A9 A10 A11 (ix4 b n s a) * val_main_v199 (F := Ideal) A0 A1 A3 A4 A5 A6 A7 A8 A9 A10 A11 (ix4 b n j a) := by
  pointwise [val_main_v201]

theorem v198_apply (b : Fin 128) (n : Fin 20) (s : Fin 300) (j : Fin 3) : val_main_v198 (F := Ideal) A0 A1 A2 A3 A4 A5 A6 A7 A8 A9 A10 A11 (ix4 b n s j) = Ideal.div (val_main_v194 (F := Ideal) A0 A1 A2 A3 A4 A5 A6 A7 A8 A9 A10 A11 (ix4 b n s ⟨j.val, by omega⟩)) (val_main_v194 (F := Ideal) A0 A1 A2 A3 A4 A5 A6 A7 A8 A9 A10 A11 (ix4 b n s 3)) := by
  pointwise [val_main_v198, val_main_v195, val_main_v197, val_main_v196]

theorem v202_0 (b : Fin 128) (n : Fin 20) (s : Fin 300) : val_main_v202 (F := Ideal) A0 A1 A2 A3 A4 A5 A6 A7 A8 A9 A10 A11 (ix4 b n s 0) = val_main_v198 (F := Ideal) A0 A1 A2 A3 A4 A5 A6 A7 A8 A9 A10 A11 (ix4 b n s 0) := by
  pointwise [val_main_v202]

theorem v202_3 (b : Fin 128) (n : Fin 20) (s : Fin 300) : val_main_v202 (F := Ideal) A0 A1 A2 A3 A4 A5 A6 A7 A8 A9 A10 A11 (ix4 b n s 3) = val_main_v201 (F := Ideal) A0 A1 A2 A3 A4 A5 A6 A7 A8 A9 A10 A11 (ix4 b n s 0) := by
  pointwise [val_main_v202]

theorem v202_1 (b : Fin 128) (n : Fin 20) (s : Fin 300) : val_main_v202 (F := Ideal) A0 A1 A2 A3 A4 A5 A6 A7 A8 A9 A10 A11 (ix4 b n s 1) = val_main_v198 (F := Ideal) A0 A1 A2 A3 A4 A5 A6 A7 A8 A9 A10 A11 (ix4 b n s 1) := by
  pointwise [val_main_v202]

theorem v202_4 (b : Fin 128) (n : Fin 20) (s : Fin 300) : val_main_v202 (F := Ideal) A0 A1 A2 A3 A4 A5 A6 A7 A8 A9 A10 A11 (ix4 b n s 4) = val_main_v201 (F := Ideal) A0 A1 A2 A3 A4 A5 A6 A7 A8 A9 A10 A11 (ix4 b n s 1) := by
  pointwise [val_main_v202]

theorem v202_2 (b : Fin 128) (n : Fin 20) (s : Fin 300) : val_main_v202 (F := Ideal) A0 A1 A2 A3 A4 A5 A6 A7 A8 A9 A10 A11 (ix4 b n s 2) = val_main_v198 (F := Ideal) A0 A1 A2 A3 A4 A5 A6 A7 A8 A9 A10 A11 (ix4 b n s 2) := by
  pointwise [val_main_v202]

theorem v202_5 (b : Fin 128) (n : Fin 20) (s : Fin 300) : val_main_v202 (F := Ideal) A0 A1 A2 A3 A4 A5 A6 A7 A8 A9 A10 A11 (ix4 b n s 5) = val_main_v201 (F := Ideal) A0 A1 A2 A3 A4 A5 A6 A7 A8 A9 A10 A11 (ix4 b n s 2) := by
  pointwise [val_main_v202]

theorem v208_apply (b : Fin 128) (n : Fin 20) (s : Fin 300) (o : Fin 128) : val_main_v208 (F := Ideal) A0 A1 A2 A3 A4 A5 A6 A7 A8 A9 A10 A11 A14 A15 (ix4 b n s o) = max (∑ k : Fin 6, val_main_v202 (F := Ideal) A0 A1 A2 A3 A4 A5 A6 A7 A8 A9 A10 A11 (ix4 b n s k) * A14 (ix2 k o) + A15 (ix1 o)) 0 := by
  pointwise [val_main_v208, val_main_v206, val_main_v203, val_main_v205, val_main_v204, val_main_v207, val_main_cst_23]

end Cert.RefFeat

end
-- ==== Proof.FeatMath.lean ====
/- The feature of a point moved into a joint's frame first, against the feature with its weights turned first. -/
module

public import proofs.«01_k».proof.Proof.Spec
public import proofs.«01_k».proof.Proof.RotMath

@[expose] public section

set_option maxRecDepth 16384

noncomputable section

namespace Cert.Spec

open Idealize.ShloMosaic

/-- Coordinate `j` of the moved point, not yet divided. -/
def moved (R : Fin 3 → Fin 3 → EReal) (t p : Fin 3 → EReal) (j : Fin 3) : EReal :=
  p 0 * R 0 j + p 1 * R 1 j + p 2 * R 2 j + 1 * -(∑ a, R a j * t a)

/-- Coordinate `j` of the turned normal. -/
def turned (R : Fin 3 → Fin 3 → EReal) (q : Fin 3 → EReal) (j : Fin 3) : EReal :=
  q 0 * R 0 j + q 1 * R 1 j + q 2 * R 2 j

theorem div_one' (x y : EReal) (h : y = 1) : Ideal.div x y = x := by
  subst h
  unfold Ideal.div
  rw [if_neg one_ne_zero]
  rw [show ((1 : EReal))⁻¹ = 1 from inv_one]
  exact mul_one x

theorem divisor (p : Fin 3 → EReal) : p 0 * 0 + p 1 * 0 + p 2 * 0 + 1 * 1 = 1 := by
  simp

theorem add_bias (a c : ℝ) (b : EReal) : (a : EReal) + (b - (c : EReal)) = ((a - c : ℝ) : EReal) + b := by
  rw [sub_eq_add_neg, ← EReal.coe_neg, add_comm b, ← add_assoc, ← EReal.coe_add, ← sub_eq_add_neg]

theorem feat_eq (wp wn : Fin 3 → EReal) (b : EReal) (R : Fin 3 → Fin 3 → EReal) (t p q : Fin 3 → EReal)
    (hwp : ∀ k, Real' (wp k)) (hwn : ∀ k, Real' (wn k)) (hR : ∀ i k, Real' (R i k)) (ht : ∀ k, Real' (t k)) (hp : ∀ k, Real' (p k)) (hq : ∀ k, Real' (q k)) :
    max (moved R t p 0 * wp 0 + moved R t p 1 * wp 1 + moved R t p 2 * wp 2 + turned R q 0 * wn 0 + turned R q 1 * wn 1 + turned R q 2 * wn 2 + b) 0
      = feat wp wn b R t p q := by
  choose wp' ewp using hwp
  choose wn' ewn using hwn
  choose R' eR using hR
  choose t' et using ht
  choose p' ep using hp
  choose q' eq using hq
  obtain rfl : wp = fun k => (wp' k : EReal) := funext ewp
  obtain rfl : wn = fun k => (wn' k : EReal) := funext ewn
  obtain rfl : R = fun i k => (R' i k : EReal) := funext fun i => funext (eR i)
  obtain rfl : t = fun k => (t' k : EReal) := funext et
  obtain rfl : p = fun k => (p' k : EReal) := funext ep
  obtain rfl : q = fun k => (q' k : EReal) := funext eq
  unfold feat moved turned
  simp only [Fin.sum_univ_three, ← EReal.coe_mul, ← EReal.coe_add, ← EReal.coe_neg, ← EReal.coe_one, add_bias]
  congr 2
  refine congrArg Real.toEReal ?_
  ring

end Cert.Spec

end
-- ==== Proof.RefLayer.lean ====
/- The reference's feature at a place is the feature of the point there. -/
module

public import proofs.«01_k».proof.Proof.Gen.ReferenceIdeal.Read
public import proofs.«01_k».proof.Proof.Spec
public import proofs.«01_k».proof.Proof.RefPoints
public import proofs.«01_k».proof.Proof.RefFeat
public import proofs.«01_k».proof.Proof.FeatMath

@[expose] public section

set_option maxRecDepth 16384

noncomputable section

namespace Cert.RefFeat

open Cert.ReferenceIdeal Cert.ReferenceIdeal.Read
open Idealize.ShloMosaic Idealize.ShloMosaic.TcCoe Idealize.SL.Sem

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32)

theorem moved_0 (b : Fin 128) (n : Fin 20) (s : Fin 300) : val_main_v202 (F := Ideal) A0 A1 A2 A3 A4 A5 A6 A7 A8 A9 A10 A11 (ix4 b n s 0) = Spec.moved (fun i k => val_main_v150 (F := Ideal) A0 A1 A3 A4 A5 A6 A7 A8 A9 A10 A11 (ix4 b n i k)) (fun k => val_main_v151 (F := Ideal) A0 A1 A4 A5 A6 A7 A8 A9 A10 A11 (ix3 b n k)) (fun k => val_main_v181 (F := Ideal) A0 A1 A2 A4 A5 A6 A7 A8 A9 A10 A11 (ix4 b n s ⟨k.val, by omega⟩)) 0 := by
  rw [v202_0, v198_apply, Spec.div_one' _ _ ?_]
  · show val_main_v194 (F := Ideal) A0 A1 A2 A3 A4 A5 A6 A7 A8 A9 A10 A11 (ix4 b n s 0) = _
    rw [v194_apply, Fin.sum_univ_four, v193_0, v193_1, v193_2, v193_3, v190_00, v190_01, v190_02, v190_03, v183_apply]
    rfl
  · rw [v194_apply, Fin.sum_univ_four, v193_0, v193_1, v193_2, v193_3, v190_30, v190_31, v190_32, v190_33]
    exact Spec.divisor (fun k => val_main_v181 (F := Ideal) A0 A1 A2 A4 A5 A6 A7 A8 A9 A10 A11 (ix4 b n s ⟨k.val, by omega⟩))

theorem turned_0 (b : Fin 128) (n : Fin 20) (s : Fin 300) : val_main_v202 (F := Ideal) A0 A1 A2 A3 A4 A5 A6 A7 A8 A9 A10 A11 (ix4 b n s 3) = Spec.turned (fun i k => val_main_v150 (F := Ideal) A0 A1 A3 A4 A5 A6 A7 A8 A9 A10 A11 (ix4 b n i k)) (fun k => val_main_v181 (F := Ideal) A0 A1 A2 A4 A5 A6 A7 A8 A9 A10 A11 (ix4 b n s ⟨3 + k.val, by omega⟩)) 0 := by
  rw [v202_3, v201_apply, Fin.sum_univ_three, v200_0, v200_1, v200_2, v199_00, v199_01, v199_02]
  rfl

theorem moved_1 (b : Fin 128) (n : Fin 20) (s : Fin 300) : val_main_v202 (F := Ideal) A0 A1 A2 A3 A4 A5 A6 A7 A8 A9 A10 A11 (ix4 b n s 1) = Spec.moved (fun i k => val_main_v150 (F := Ideal) A0 A1 A3 A4 A5 A6 A7 A8 A9 A10 A11 (ix4 b n i k)) (fun k => val_main_v151 (F := Ideal) A0 A1 A4 A5 A6 A7 A8 A9 A10 A11 (ix3 b n k)) (fun k => val_main_v181 (F := Ideal) A0 A1 A2 A4 A5 A6 A7 A8 A9 A10 A11 (ix4 b n s ⟨k.val, by omega⟩)) 1 := by
  rw [v202_1, v198_apply, Spec.div_one' _ _ ?_]
  · show val_main_v194 (F := Ideal) A0 A1 A2 A3 A4 A5 A6 A7 A8 A9 A10 A11 (ix4 b n s 1) = _
    rw [v194_apply, Fin.sum_univ_four, v193_0, v193_1, v193_2, v193_3, v190_10, v190_11, v190_12, v190_13, v183_apply]
    rfl
  · rw [v194_apply, Fin.sum_univ_four, v193_0, v193_1, v193_2, v193_3, v190_30, v190_31, v190_32, v190_33]
    exact Spec.divisor (fun k => val_main_v181 (F := Ideal) A0 A1 A2 A4 A5 A6 A7 A8 A9 A10 A11 (ix4 b n s ⟨k.val, by omega⟩))

theorem turned_1 (b : Fin 128) (n : Fin 20) (s : Fin 300) : val_main_v202 (F := Ideal) A0 A1 A2 A3 A4 A5 A6 A7 A8 A9 A10 A11 (ix4 b n s 4) = Spec.turned (fun i k => val_main_v150 (F := Ideal) A0 A1 A3 A4 A5 A6 A7 A8 A9 A10 A11 (ix4 b n i k)) (fun k => val_main_v181 (F := Ideal) A0 A1 A2 A4 A5 A6 A7 A8 A9 A10 A11 (ix4 b n s ⟨3 + k.val, by omega⟩)) 1 := by
  rw [v202_4, v201_apply, Fin.sum_univ_three, v200_0, v200_1, v200_2, v199_10, v199_11, v199_12]
  rfl

theorem moved_2 (b : Fin 128) (n : Fin 20) (s : Fin 300) : val_main_v202 (F := Ideal) A0 A1 A2 A3 A4 A5 A6 A7 A8 A9 A10 A11 (ix4 b n s 2) = Spec.moved (fun i k => val_main_v150 (F := Ideal) A0 A1 A3 A4 A5 A6 A7 A8 A9 A10 A11 (ix4 b n i k)) (fun k => val_main_v151 (F := Ideal) A0 A1 A4 A5 A6 A7 A8 A9 A10 A11 (ix3 b n k)) (fun k => val_main_v181 (F := Ideal) A0 A1 A2 A4 A5 A6 A7 A8 A9 A10 A11 (ix4 b n s ⟨k.val, by omega⟩)) 2 := by
  rw [v202_2, v198_apply, Spec.div_one' _ _ ?_]
  · show val_main_v194 (F := Ideal) A0 A1 A2 A3 A4 A5 A6 A7 A8 A9 A10 A11 (ix4 b n s 2) = _
    rw [v194_apply, Fin.sum_univ_four, v193_0, v193_1, v193_2, v193_3, v190_20, v190_21, v190_22, v190_23, v183_apply]
    rfl
  · rw [v194_apply, Fin.sum_univ_four, v193_0, v193_1, v193_2, v193_3, v190_30, v190_31, v190_32, v190_33]
    exact Spec.divisor (fun k => val_main_v181 (F := Ideal) A0 A1 A2 A4 A5 A6 A7 A8 A9 A10 A11 (ix4 b n s ⟨k.val, by omega⟩))

theorem turned_2 (b : Fin 128) (n : Fin 20) (s : Fin 300) : val_main_v202 (F := Ideal) A0 A1 A2 A3 A4 A5 A6 A7 A8 A9 A10 A11 (ix4 b n s 5) = Spec.turned (fun i k => val_main_v150 (F := Ideal) A0 A1 A3 A4 A5 A6 A7 A8 A9 A10 A11 (ix4 b n i k)) (fun k => val_main_v181 (F := Ideal) A0 A1 A2 A4 A5 A6 A7 A8 A9 A10 A11 (ix4 b n s ⟨3 + k.val, by omega⟩)) 2 := by
  rw [v202_5, v201_apply, Fin.sum_univ_three, v200_0, v200_1, v200_2, v199_20, v199_21, v199_22]
  rfl

/-- The feature at a place whose point, and everything about its joint, is finite. -/
theorem feat_apply (b : Fin 128) (n : Fin 20) (s : Fin 300) (o : Fin 128)
    (hw : ∀ k, Spec.Real' (A14 (ix2 k o))) (hR : ∀ i k, Spec.Real' (val_main_v150 (F := Ideal) A0 A1 A3 A4 A5 A6 A7 A8 A9 A10 A11 (ix4 b n i k))) (ht : ∀ k, Spec.Real' (val_main_v151 (F := Ideal) A0 A1 A4 A5 A6 A7 A8 A9 A10 A11 (ix3 b n k)))
    (hp : ∀ d, Spec.Real' (val_main_v181 (F := Ideal) A0 A1 A2 A4 A5 A6 A7 A8 A9 A10 A11 (ix4 b n s d))) :
    val_main_v208 (F := Ideal) A0 A1 A2 A3 A4 A5 A6 A7 A8 A9 A10 A11 A14 A15 (ix4 b n s o) = Spec.feat (fun k => A14 (ix2 ⟨k.val, by omega⟩ o)) (fun k => A14 (ix2 ⟨3 + k.val, by omega⟩ o)) (A15 (ix1 o)) (fun i k => val_main_v150 (F := Ideal) A0 A1 A3 A4 A5 A6 A7 A8 A9 A10 A11 (ix4 b n i k)) (fun k => val_main_v151 (F := Ideal) A0 A1 A4 A5 A6 A7 A8 A9 A10 A11 (ix3 b n k)) (fun k => val_main_v181 (F := Ideal) A0 A1 A2 A4 A5 A6 A7 A8 A9 A10 A11 (ix4 b n s ⟨k.val, by omega⟩)) (fun k => val_main_v181 (F := Ideal) A0 A1 A2 A4 A5 A6 A7 A8 A9 A10 A11 (ix4 b n s ⟨3 + k.val, by omega⟩)) := by
  rw [← Spec.feat_eq _ _ _ _ _ _ _ (fun k => hw _) (fun k => hw _) hR ht (fun k => hp _) (fun k => hp _)]
  rw [v208_apply, Fin.sum_univ_six, moved_0, moved_1, moved_2, turned_0, turned_1, turned_2]
  rfl

end Cert.RefFeat

end
-- ==== Proof.RefPool.lean ====
/- The reference's pooled features, over the places. -/
module

public import proofs.«01_k».proof.Proof.Gen.ReferenceIdeal.Read
public import proofs.«01_k».proof.Proof.Spec
public import proofs.«01_k».proof.Proof.RefPoints

@[expose] public section

set_option maxRecDepth 16384

noncomputable section

namespace Cert.RefPool

open Cert.ReferenceIdeal Cert.ReferenceIdeal.Read
open Idealize.ShloMosaic Idealize.ShloMosaic.TcCoe Idealize.SL.Sem

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32)

theorem sel_one {α : Type} (x y : α) : Scalar.select 1#1 x y = x := rfl

theorem sel_zero {α : Type} (x y : α) : Scalar.select 0#1 x y = y := rfl

theorem eq_zero_of_ne_one {c : BitVec 1} (h : c ≠ 1#1) : c = 0#1 := by
  revert h; revert c; decide

open Classical in
/-- The or of many bits is one when one of them is. -/
theorem fold_or {N : ℕ} (g : Fin N → BitVec 1) : Finset.fold IntOp.ori (0#1) g Finset.univ = if ∃ x, g x = 1#1 then 1#1 else 0#1 := by
  have h : ∀ s : Finset (Fin N), Finset.fold IntOp.ori (0#1) g s = if ∃ x ∈ s, g x = 1#1 then 1#1 else 0#1 := by
    intro s
    induction s using Finset.induction_on with
    | empty => simp
    | insert a s ha ih =>
      rw [Finset.fold_insert ha, ih]
      by_cases h1 : g a = 1#1
      · rw [if_pos (c := ∃ x ∈ insert a s, g x = 1#1) ⟨a, Finset.mem_insert_self _ _, h1⟩, h1]
        split <;> rfl
      · have e : (∃ x ∈ insert a s, g x = 1#1) ↔ ∃ x ∈ s, g x = 1#1 := by
          constructor
          · rintro ⟨x, hx, hg⟩
            rcases Finset.mem_insert.1 hx with rfl | hx
            · exact absurd hg h1
            · exact ⟨x, hx, hg⟩
          · rintro ⟨x, hx, hg⟩; exact ⟨x, Finset.mem_insert_of_mem hx, hg⟩
        rw [eq_zero_of_ne_one h1]
        simp only [e]
        split <;> rfl
  simpa using h Finset.univ

theorem v210_apply (b : Fin 128) (n : Fin 20) (s : Fin 300) (o : Fin 128) : val_main_v210 (F := Ideal) A0 A1 A2 A3 A4 A5 A6 A7 A8 A9 A10 A11 A14 A15 (ix4 b n s o) = Scalar.select (val_main_v171 (F := Ideal) A0 A1 A2 A4 A5 A6 A7 A8 A9 A10 A11 (ix3 b n s)) (val_main_v208 (F := Ideal) A0 A1 A2 A3 A4 A5 A6 A7 A8 A9 A10 A11 A14 A15 (ix4 b n s o)) (Ideal.ofBits .f32 0xCE6E6B28#32) := by
  pointwise [val_main_v210, val_main_call7_v1, val_main_v209, val_main_call7_v2, val_main_call7_v0, val_main_cst_24]
  rfl

theorem v214_apply (b : Fin 128) (n : Fin 20) (o : Fin 128) : val_main_v214 (F := Ideal) A0 A1 A2 A3 A4 A5 A6 A7 A8 A9 A10 A11 A14 A15 (ix3 b n o) = Spec.poolOver (fun s => val_main_v171 (F := Ideal) A0 A1 A2 A4 A5 A6 A7 A8 A9 A10 A11 (ix3 b n s) = 1#1) (fun s => val_main_v208 (F := Ideal) A0 A1 A2 A3 A4 A5 A6 A7 A8 A9 A10 A11 A14 A15 (ix4 b n s o)) := by
  have h := fun s => v210_apply A0 A1 A2 A3 A4 A5 A6 A7 A8 A9 A10 A11 A14 A15 b n s o
  pointwise [val_main_v214, val_main_call8_v1, val_main_v213, val_main_v212, val_main_c_26, val_main_v211, val_main_cst_25, val_main_call8_v2, val_main_call8_v0, val_main_cst_27]
  simp only [h]
  unfold Spec.poolOver
  dsimp only
  rw [fold_or]
  by_cases hx : ∃ x, val_main_v171 (F := Ideal) A0 A1 A2 A4 A5 A6 A7 A8 A9 A10 A11 (ix3 b n x) = 1#1
  · rw [if_pos hx, if_pos hx]
    rw [sel_one]
    refine (congrArg (fun g => Finset.fold max (Ideal.ofBits .f32 0xFF800000#32) g Finset.univ) (funext fun x => ?_))
    by_cases h1 : val_main_v171 (F := Ideal) A0 A1 A2 A4 A5 A6 A7 A8 A9 A10 A11 (ix3 b n x) = 1#1
    · rw [if_pos h1, h1, sel_one]
    · rw [if_neg h1, eq_zero_of_ne_one h1, sel_zero]
  · rw [if_neg hx, if_neg hx, sel_zero]
    exact Ideal.ofBits_zero_f32

end Cert.RefPool

end
-- ==== Proof.RefHead.lean ====
/- The reference's head: a joint's features, its displacement in its own frame, and the turned displacement. -/
module

public import proofs.«01_k».proof.Proof.Gen.ReferenceIdeal.Read
public import proofs.«01_k».proof.Proof.Spec
public import proofs.«01_k».proof.Proof.RefPoints

@[expose] public section

set_option maxRecDepth 16384

noncomputable section

namespace Cert.RefHead

open Cert.ReferenceIdeal Cert.ReferenceIdeal.Read
open Idealize.ShloMosaic Idealize.ShloMosaic.TcCoe Idealize.SL.Sem

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32) (A16 : FVec Ideal S256x256 .f32) (A17 : FVec Ideal S256 .f32) (A18 : FVec Ideal S256x3 .f32) (A19 : FVec Ideal S3 .f32)

theorem v156_apply (b : Fin 128) (c : Fin 128) (n : Fin 20) : val_main_v156 (F := Ideal) A0 A1 A4 A5 A6 A7 A8 A9 A10 A11 A12 A13 (ix3 b c n) = ∑ d : Fin 3, A12 (ix2 d c) * val_main_v151 (F := Ideal) A0 A1 A4 A5 A6 A7 A8 A9 A10 A11 (ix3 b n d) + A13 (ix1 c) := by
  pointwise [val_main_v156, val_main_v155, val_main_v152, val_main_v154, val_main_v153]
  simp only [mul_comm]

theorem v216_apply (b : Fin 128) (c : Fin 256) (n : Fin 20) : val_main_v216 (F := Ideal) A0 A1 A2 A3 A4 A5 A6 A7 A8 A9 A10 A11 A12 A13 A14 A15 (ix3 b c n)
    = if h : c.val < 128 then val_main_v156 (F := Ideal) A0 A1 A4 A5 A6 A7 A8 A9 A10 A11 A12 A13 (ix3 b ⟨c.val, h⟩ n) else val_main_v214 (F := Ideal) A0 A1 A2 A3 A4 A5 A6 A7 A8 A9 A10 A11 A14 A15 (ix3 b n ⟨c.val - 128, by omega⟩) := by
  pointwise [val_main_v216, val_main_v215]

/-- The joint's features. -/
theorem joint_feat (b : Fin 128) (c : Fin 256) (n : Fin 20) : val_main_v216 (F := Ideal) A0 A1 A2 A3 A4 A5 A6 A7 A8 A9 A10 A11 A12 A13 A14 A15 (ix3 b c n)
    = Spec.jointFeat (fun d o => A12 (ix2 d o)) (fun o => A13 (ix1 o)) (fun k => val_main_v151 (F := Ideal) A0 A1 A4 A5 A6 A7 A8 A9 A10 A11 (ix3 b n k)) (fun o => val_main_v214 (F := Ideal) A0 A1 A2 A3 A4 A5 A6 A7 A8 A9 A10 A11 A14 A15 (ix3 b n o)) c := by
  rw [v216_apply]
  unfold Spec.jointFeat
  by_cases h : c.val < 128
  · rw [dif_pos h, dif_pos h, v156_apply]
  · rw [dif_neg h, dif_neg h]

theorem v218_apply (b : Fin 128) (c : Fin 256) (n : Fin 20) : val_main_v218 (F := Ideal) A0 A1 A2 A3 A4 A5 A6 A7 A8 A9 A10 A11 A12 A13 A14 A15 (ix4 ⟨b.val % 16, by omega⟩ n ⟨b.val / 16, by omega⟩ c) = val_main_v216 (F := Ideal) A0 A1 A2 A3 A4 A5 A6 A7 A8 A9 A10 A11 A12 A13 A14 A15 (ix3 b c n) := by
  pointwise [val_main_v218, val_main_v217]

theorem v224_apply (f : Fin 16) (n : Fin 20) (e : Fin 8) (o : Fin 256) : val_main_v224 (F := Ideal) A0 A1 A2 A3 A4 A5 A6 A7 A8 A9 A10 A11 A12 A13 A14 A15 A16 A17 (ix4 f n e o) = max (∑ c : Fin 256, A16 (ix2 c o) * val_main_v218 (F := Ideal) A0 A1 A2 A3 A4 A5 A6 A7 A8 A9 A10 A11 A12 A13 A14 A15 (ix4 f n e c) + A17 (ix1 o)) 0 := by
  pointwise [val_main_v224, val_main_v222, val_main_v219, val_main_v221, val_main_v220, val_main_v223, val_main_cst_28]
  simp only [mul_comm]

theorem v228_apply (f : Fin 16) (n : Fin 20) (e : Fin 8) (i : Fin 3) : val_main_v228 (F := Ideal) A0 A1 A2 A3 A4 A5 A6 A7 A8 A9 A10 A11 A12 A13 A14 A15 A16 A17 A18 A19 (ix4 f n e i) = ∑ o : Fin 256, A18 (ix2 o i) * val_main_v224 (F := Ideal) A0 A1 A2 A3 A4 A5 A6 A7 A8 A9 A10 A11 A12 A13 A14 A15 A16 A17 (ix4 f n e o) + A19 (ix1 i) := by
  pointwise [val_main_v228, val_main_v225, val_main_v227, val_main_v226]
  simp only [mul_comm]

theorem v230_apply (b : Fin 128) (n : Fin 20) (i : Fin 3) : val_main_v230 (F := Ideal) A0 A1 A2 A3 A4 A5 A6 A7 A8 A9 A10 A11 A12 A13 A14 A15 A16 A17 A18 A19 (ix3 b n i) = val_main_v228 (F := Ideal) A0 A1 A2 A3 A4 A5 A6 A7 A8 A9 A10 A11 A12 A13 A14 A15 A16 A17 A18 A19 (ix4 ⟨b.val % 16, by omega⟩ n ⟨b.val / 16, by omega⟩ i) := by
  pointwise [val_main_v230, val_main_v229]

/-- The displacement in the joint's own frame. -/
theorem local_disp (b : Fin 128) (n : Fin 20) (i : Fin 3) : val_main_v230 (F := Ideal) A0 A1 A2 A3 A4 A5 A6 A7 A8 A9 A10 A11 A12 A13 A14 A15 A16 A17 A18 A19 (ix3 b n i)
    = Spec.localDisp (fun c o => A16 (ix2 c o)) (fun o => A17 (ix1 o)) (fun o i => A18 (ix2 o i)) (fun i => A19 (ix1 i)) (fun c => val_main_v216 (F := Ideal) A0 A1 A2 A3 A4 A5 A6 A7 A8 A9 A10 A11 A12 A13 A14 A15 (ix3 b c n)) i := by
  rw [v230_apply, v228_apply]
  simp only [v224_apply, v218_apply]
  rfl

theorem v231_apply (b : Fin 128) (n : Fin 20) (i : Fin 3) : val_main_v231 (F := Ideal) A0 A1 A2 A3 A4 A5 A6 A7 A8 A9 A10 A11 A12 A13 A14 A15 A16 A17 A18 A19 (ix3 b n i) = ∑ k : Fin 3, val_main_v150 (F := Ideal) A0 A1 A3 A4 A5 A6 A7 A8 A9 A10 A11 (ix4 b n i k) * val_main_v230 (F := Ideal) A0 A1 A2 A3 A4 A5 A6 A7 A8 A9 A10 A11 A12 A13 A14 A15 A16 A17 A18 A19 (ix3 b n k) := by
  pointwise [val_main_v231]

theorem v235_apply (e : Fin 8) (f : Fin 16) (n : Fin 20) (i : Fin 3) : val_main_v235 (F := Ideal) A0 A1 A2 A3 A4 A5 A6 A7 A8 A9 A10 A11 A12 A13 A14 A15 A16 A17 A18 A19 (ix4 e f n i)
    = (val_main_v231 (F := Ideal) A0 A1 A2 A3 A4 A5 A6 A7 A8 A9 A10 A11 A12 A13 A14 A15 A16 A17 A18 A19 (ix3 ⟨e.val * 16 + f.val, by omega⟩ n i) - val_main_v25 (F := Ideal) A0 A1 A4 A5 A6 A7 A8 A9 A10 A11 (ix3 ⟨e.val * 16 + f.val, by omega⟩ n i)) + val_main_v151 (F := Ideal) A0 A1 A4 A5 A6 A7 A8 A9 A10 A11 (ix3 ⟨e.val * 16 + f.val, by omega⟩ n i) := by
  pointwise [val_main_v235, val_main_v233, val_main_v232, val_main_v26, val_main_v234]

end Cert.RefHead

end
-- ==== Proof.RefValue.lean ====
/- The reference's displacement of a joint is the stated one, where the joints, normals and weights are finite and few points are near. -/
module

public import proofs.«01_k».proof.Proof.Gen.ReferenceIdeal.Read
public import proofs.«01_k».proof.Proof.Spec
public import proofs.«01_k».proof.Proof.RotMath
public import proofs.«01_k».proof.Proof.Consts
public import proofs.«01_k».proof.Proof.Order
public import proofs.«01_k».proof.Proof.PoolMath
public import proofs.«01_k».proof.Proof.RefPoints
public import proofs.«01_k».proof.Proof.RefRot
public import proofs.«01_k».proof.Proof.RefFeat
public import proofs.«01_k».proof.Proof.RefLayer
public import proofs.«01_k».proof.Proof.RefPool
public import proofs.«01_k».proof.Proof.RefHead

@[expose] public section

set_option maxRecDepth 16384

noncomputable section

namespace Cert.RefValue

open Cert.ReferenceIdeal Cert.ReferenceIdeal.Read
open Idealize.ShloMosaic Idealize.ShloMosaic.TcCoe Idealize.SL.Sem

/-- The square of a difference, either way round. -/
theorem sq_comm (t : ℝ) (p : EReal) : ((t : EReal) - p) * ((t : EReal) - p) = (p - (t : EReal)) * (p - (t : EReal)) := by
  induction p with
  | bot => simp
  | top => simp
  | coe r => norm_cast; ring

/-- A difference with a real is real only from a real. -/
theorem real_of_sub (t : ℝ) (p : EReal) (h : Spec.Real' ((t : EReal) - p)) : Spec.Real' p := by
  obtain ⟨r, h⟩ := h
  induction p with
  | bot => simp at h
  | top => simp at h
  | coe x => exact ⟨x, rfl⟩

theorem sub_add_real (t : ℝ) (x : EReal) : x - (t : EReal) + (t : EReal) = x := by
  rw [sub_eq_add_neg, add_assoc, ← EReal.coe_neg, ← EReal.coe_add, neg_add_cancel, EReal.coe_zero, add_zero]

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32) (A16 : FVec Ideal S256x256 .f32) (A17 : FVec Ideal S256 .f32) (A18 : FVec Ideal S256x3 .f32) (A19 : FVec Ideal S3 .f32)

theorem dist_eq (hJ : ∀ b n k, Spec.Real' (val_main_v25 (F := Ideal) A0 A1 A4 A5 A6 A7 A8 A9 A10 A11 (ix3 b n k))) (b : Fin 128) (n : Fin 20) (p : Fin 4096) : val_main_v165 (F := Ideal) A0 A1 A2 A4 A5 A6 A7 A8 A9 A10 A11 (ix3 b n p) = Spec.dist ((fun (p : Fin 4096) (d : Fin 3) => A2 (ix4 (⟨b.val / 16, by omega⟩ : Fin 8) (⟨b.val % 16, by omega⟩ : Fin 16) p ⟨d.val, by omega⟩)) p) (fun k => val_main_v25 (F := Ideal) A0 A1 A4 A5 A6 A7 A8 A9 A10 A11 (ix3 b n k)) := by
  rw [RefPoints.v165_apply]
  simp only [RefPoints.v151_apply, RefPoints.v157_apply, Fin.sum_univ_three]
  unfold Spec.dist
  have h : ∀ k q, (val_main_v25 (F := Ideal) A0 A1 A4 A5 A6 A7 A8 A9 A10 A11 (ix3 b n k) - q) * (val_main_v25 (F := Ideal) A0 A1 A4 A5 A6 A7 A8 A9 A10 A11 (ix3 b n k) - q) = (q - val_main_v25 (F := Ideal) A0 A1 A4 A5 A6 A7 A8 A9 A10 A11 (ix3 b n k)) * (q - val_main_v25 (F := Ideal) A0 A1 A4 A5 A6 A7 A8 A9 A10 A11 (ix3 b n k)) := by
    intro k q
    obtain ⟨t, ht⟩ := hJ b n k
    rw [ht]; exact sq_comm t q
  rw [h, h, h]

/-- A near point's position is real. -/
theorem near_real (hJ : ∀ b n k, Spec.Real' (val_main_v25 (F := Ideal) A0 A1 A4 A5 A6 A7 A8 A9 A10 A11 (ix3 b n k))) (b : Fin 128) (n : Fin 20) (p : Fin 4096) (h : val_main_v165 (F := Ideal) A0 A1 A2 A4 A5 A6 A7 A8 A9 A10 A11 (ix3 b n p) < Spec.radius) (d : Fin 3) : Spec.Real' (val_main_v157 (F := Ideal) A2 (ix3 b p ⟨d.val, by omega⟩)) := by
  by_contra hc
  obtain ⟨t, ht⟩ := hJ b n d
  have hn : ¬ Spec.Real' (val_main_v151 (F := Ideal) A0 A1 A4 A5 A6 A7 A8 A9 A10 A11 (ix3 b n d) - val_main_v157 (F := Ideal) A2 (ix3 b p ⟨d.val, by omega⟩)) := by
    rw [RefPoints.v151_apply, ht]
    exact fun h' => hc (real_of_sub t _ h')
  have h1 := Spec.sq_top hn
  rw [RefPoints.v165_apply] at h
  have h2 := Finset.single_le_sum (f := fun k : Fin 3 => (val_main_v151 (F := Ideal) A0 A1 A4 A5 A6 A7 A8 A9 A10 A11 (ix3 b n k) - val_main_v157 (F := Ideal) A2 (ix3 b p ⟨k.val, by omega⟩)) * (val_main_v151 (F := Ideal) A0 A1 A4 A5 A6 A7 A8 A9 A10 A11 (ix3 b n k) - val_main_v157 (F := Ideal) A2 (ix3 b p ⟨k.val, by omega⟩))) (fun k _ => Spec.sq_nonneg' _) (Finset.mem_univ d)
  obtain ⟨r, hr⟩ := Spec.radius_real
  rw [hr] at h
  have h3 := h2.trans_lt h
  dsimp only at h3
  rw [h1] at h3
  exact absurd h3 (not_lt_of_ge le_top)

theorem key_iff (b : Fin 128) (n : Fin 20) (p : Fin 4096) : val_main_v165 (F := Ideal) A0 A1 A2 A4 A5 A6 A7 A8 A9 A10 A11 (ix3 b n p) < Spec.radius ↔ val_main_v168 (F := Ideal) A0 A1 A2 A4 A5 A6 A7 A8 A9 A10 A11 (ix3 b n p) < (⊤ : EReal) := by
  rw [RefPoints.v168_apply, Spec.ofBits_top]
  obtain ⟨r, hr⟩ := Spec.radius_real
  constructor
  · intro h
    rw [if_pos h]
    exact h.trans_le le_top
  · intro h
    by_contra hc
    rw [if_neg hc] at h
    exact lt_irrefl _ h

theorem mark_iff (b : Fin 128) (n : Fin 20) (s : Fin 300) : val_main_v171 (F := Ideal) A0 A1 A2 A4 A5 A6 A7 A8 A9 A10 A11 (ix3 b n s) = 1#1 ↔ val_main_v165 (F := Ideal) A0 A1 A2 A4 A5 A6 A7 A8 A9 A10 A11 (ix3 b n (RefPoints.place A0 A1 A2 A4 A5 A6 A7 A8 A9 A10 A11 b n s)) < Spec.radius := by
  rw [RefPoints.v171_apply, RefPoints.v167_apply]
  by_cases h : val_main_v165 (F := Ideal) A0 A1 A2 A4 A5 A6 A7 A8 A9 A10 A11 (ix3 b n (RefPoints.place A0 A1 A2 A4 A5 A6 A7 A8 A9 A10 A11 b n s)) < Spec.radius
  · rw [decide_eq_true h]; exact ⟨fun _ => h, fun _ => rfl⟩
  · rw [decide_eq_false h]; exact ⟨fun h' => absurd h' (by decide), fun h' => absurd h' h⟩

theorem all_real (hJ : ∀ b n k, Spec.Real' (val_main_v25 (F := Ideal) A0 A1 A4 A5 A6 A7 A8 A9 A10 A11 (ix3 b n k))) (hN : ∀ b p (k : Fin 3), Spec.Real' (val_main_v157 (F := Ideal) A2 (ix3 b p ⟨3 + k.val, by omega⟩))) (b : Fin 128) (n : Fin 20) (p : Fin 4096) (h : val_main_v165 (F := Ideal) A0 A1 A2 A4 A5 A6 A7 A8 A9 A10 A11 (ix3 b n p) < Spec.radius) (d : Fin 6) : Spec.Real' (val_main_v157 (F := Ideal) A2 (ix3 b p d)) := by
  by_cases hd : d.val < 3
  · exact near_real A0 A1 A2 A4 A5 A6 A7 A8 A9 A10 A11 hJ b n p h ⟨d.val, hd⟩
  · have e : d = ⟨3 + (⟨d.val - 3, by omega⟩ : Fin 3).val, by omega⟩ := Fin.ext (by dsimp only; omega)
    rw [e]; exact hN b p _

theorem feat_near (hJ : ∀ b n k, Spec.Real' (val_main_v25 (F := Ideal) A0 A1 A4 A5 A6 A7 A8 A9 A10 A11 (ix3 b n k))) (hN : ∀ b p (k : Fin 3), Spec.Real' (val_main_v157 (F := Ideal) A2 (ix3 b p ⟨3 + k.val, by omega⟩))) (hW : ∀ k o, Spec.Real' (A14 (ix2 k o))) (b : Fin 128) (n : Fin 20) (s : Fin 300) (o : Fin 128) (h : val_main_v165 (F := Ideal) A0 A1 A2 A4 A5 A6 A7 A8 A9 A10 A11 (ix3 b n (RefPoints.place A0 A1 A2 A4 A5 A6 A7 A8 A9 A10 A11 b n s)) < Spec.radius) :
    val_main_v208 (F := Ideal) A0 A1 A2 A3 A4 A5 A6 A7 A8 A9 A10 A11 A14 A15 (ix4 b n s o) = (fun p => Spec.feat (fun k => A14 (ix2 ⟨k.val, by omega⟩ o)) (fun k => A14 (ix2 ⟨3 + k.val, by omega⟩ o)) (A15 (ix1 o)) (Spec.rot (RefRot.bone A3 n) (fun k => val_main_v25 (F := Ideal) A0 A1 A4 A5 A6 A7 A8 A9 A10 A11 (ix3 b n k))) (fun k => val_main_v25 (F := Ideal) A0 A1 A4 A5 A6 A7 A8 A9 A10 A11 (ix3 b n k)) ((fun (p : Fin 4096) (d : Fin 3) => A2 (ix4 (⟨b.val / 16, by omega⟩ : Fin 8) (⟨b.val % 16, by omega⟩ : Fin 16) p ⟨d.val, by omega⟩)) p) ((fun (p : Fin 4096) (d : Fin 3) => A2 (ix4 (⟨b.val / 16, by omega⟩ : Fin 8) (⟨b.val % 16, by omega⟩ : Fin 16) p ⟨3 + d.val, by omega⟩)) p)) (RefPoints.place A0 A1 A2 A4 A5 A6 A7 A8 A9 A10 A11 b n s) := by
  have hm := (mark_iff A0 A1 A2 A4 A5 A6 A7 A8 A9 A10 A11 b n s).2 h
  have hp := fun d => RefPoints.v181_apply A0 A1 A2 A4 A5 A6 A7 A8 A9 A10 A11 b n s d hm
  have ht := fun k => RefPoints.v151_apply A0 A1 A4 A5 A6 A7 A8 A9 A10 A11 b n k
  have hR := fun i k => RefRot.rotation A0 A1 A3 A4 A5 A6 A7 A8 A9 A10 A11 b n i k
  rw [RefFeat.feat_apply A0 A1 A2 A3 A4 A5 A6 A7 A8 A9 A10 A11 A14 A15 b n s o (fun k => hW k o)
    (fun i k => by rw [hR]; exact Spec.rot_real _ _ _ _) (fun k => by rw [ht]; exact hJ b n k)
    (fun d => by rw [hp]; exact all_real A0 A1 A2 A4 A5 A6 A7 A8 A9 A10 A11 hJ hN b n _ h d)]
  simp only [hp, ht, hR, RefPoints.v157_apply]

/-- The pooled feature, over all points. -/
theorem pool_eq (hJ : ∀ b n k, Spec.Real' (val_main_v25 (F := Ideal) A0 A1 A4 A5 A6 A7 A8 A9 A10 A11 (ix3 b n k))) (hN : ∀ b p (k : Fin 3), Spec.Real' (val_main_v157 (F := Ideal) A2 (ix3 b p ⟨3 + k.val, by omega⟩))) (hW : ∀ k o, Spec.Real' (A14 (ix2 k o))) (hC : ∀ b n, (Finset.univ.filter fun p : Fin 4096 => val_main_v165 (F := Ideal) A0 A1 A2 A4 A5 A6 A7 A8 A9 A10 A11 (ix3 b n p) < Spec.radius).card ≤ 300) (b : Fin 128) (n : Fin 20) (o : Fin 128) :
    val_main_v214 (F := Ideal) A0 A1 A2 A3 A4 A5 A6 A7 A8 A9 A10 A11 A14 A15 (ix3 b n o) = Spec.poolOver (fun p => Spec.dist ((fun (p : Fin 4096) (d : Fin 3) => A2 (ix4 (⟨b.val / 16, by omega⟩ : Fin 8) (⟨b.val % 16, by omega⟩ : Fin 16) p ⟨d.val, by omega⟩)) p) (fun k => val_main_v25 (F := Ideal) A0 A1 A4 A5 A6 A7 A8 A9 A10 A11 (ix3 b n k)) < Spec.radius) (fun p => Spec.feat (fun k => A14 (ix2 ⟨k.val, by omega⟩ o)) (fun k => A14 (ix2 ⟨3 + k.val, by omega⟩ o)) (A15 (ix1 o)) (Spec.rot (RefRot.bone A3 n) (fun k => val_main_v25 (F := Ideal) A0 A1 A4 A5 A6 A7 A8 A9 A10 A11 (ix3 b n k))) (fun k => val_main_v25 (F := Ideal) A0 A1 A4 A5 A6 A7 A8 A9 A10 A11 (ix3 b n k)) ((fun (p : Fin 4096) (d : Fin 3) => A2 (ix4 (⟨b.val / 16, by omega⟩ : Fin 8) (⟨b.val % 16, by omega⟩ : Fin 16) p ⟨d.val, by omega⟩)) p) ((fun (p : Fin 4096) (d : Fin 3) => A2 (ix4 (⟨b.val / 16, by omega⟩ : Fin 8) (⟨b.val % 16, by omega⟩ : Fin 16) p ⟨3 + d.val, by omega⟩)) p)) := by
  rw [RefPool.v214_apply]
  refine Spec.poolOver_places (fun s => RefPoints.place A0 A1 A2 A4 A5 A6 A7 A8 A9 A10 A11 b n s) _ _ _ _ (fun s => ?_) (fun s h => ?_) (fun p h => ?_) (fun p => le_max_right _ _)
  · rw [mark_iff A0 A1 A2 A4 A5 A6 A7 A8 A9 A10 A11, dist_eq A0 A1 A2 A4 A5 A6 A7 A8 A9 A10 A11 hJ]
  · rw [← dist_eq A0 A1 A2 A4 A5 A6 A7 A8 A9 A10 A11 hJ] at h
    exact feat_near A0 A1 A2 A3 A4 A5 A6 A7 A8 A9 A10 A11 A14 A15 hJ hN hW b n s o h
  · rw [← dist_eq A0 A1 A2 A4 A5 A6 A7 A8 A9 A10 A11 hJ] at h
    obtain ⟨s, hs⟩ := Order.order_surjective (fun k => val_main_v168 (F := Ideal) A0 A1 A2 A4 A5 A6 A7 A8 A9 A10 A11 (ix3 b n k)) p
    have hlt := Order.place_lt (fun k => val_main_v168 (F := Ideal) A0 A1 A2 A4 A5 A6 A7 A8 A9 A10 A11 (ix3 b n k)) (fun p => val_main_v165 (F := Ideal) A0 A1 A2 A4 A5 A6 A7 A8 A9 A10 A11 (ix3 b n p) < Spec.radius) 300 (fun p => key_iff A0 A1 A2 A4 A5 A6 A7 A8 A9 A10 A11 b n p) (hC b n) s (by rw [hs]; exact h)
    exact ⟨⟨s.val, hlt⟩, hs⟩

/-- The displacement of a joint. -/
theorem disp_eq (hJ : ∀ b n k, Spec.Real' (val_main_v25 (F := Ideal) A0 A1 A4 A5 A6 A7 A8 A9 A10 A11 (ix3 b n k))) (hN : ∀ b p (k : Fin 3), Spec.Real' (val_main_v157 (F := Ideal) A2 (ix3 b p ⟨3 + k.val, by omega⟩))) (hW : ∀ k o, Spec.Real' (A14 (ix2 k o))) (hC : ∀ b n, (Finset.univ.filter fun p : Fin 4096 => val_main_v165 (F := Ideal) A0 A1 A2 A4 A5 A6 A7 A8 A9 A10 A11 (ix3 b n p) < Spec.radius).card ≤ 300) (e : Fin 8) (f : Fin 16) (n : Fin 20) (i : Fin 3) (b : Fin 128) (hb : b = ⟨e.val * 16 + f.val, by omega⟩) :
    val_main_v235 (F := Ideal) A0 A1 A2 A3 A4 A5 A6 A7 A8 A9 A10 A11 A12 A13 A14 A15 A16 A17 A18 A19 (ix4 e f n i) = Spec.jointDisp (fun d o => A12 (ix2 d o)) (fun o => A13 (ix1 o)) (fun k o => A14 (ix2 k o)) (fun o => A15 (ix1 o))
      (fun x o => A16 (ix2 x o)) (fun o => A17 (ix1 o)) (fun o i => A18 (ix2 o i)) (fun i => A19 (ix1 i)) (RefRot.bone A3 n) (fun k => val_main_v25 (F := Ideal) A0 A1 A4 A5 A6 A7 A8 A9 A10 A11 (ix3 b n k)) (fun (p : Fin 4096) (d : Fin 3) => A2 (ix4 (⟨b.val / 16, by omega⟩ : Fin 8) (⟨b.val % 16, by omega⟩ : Fin 16) p ⟨d.val, by omega⟩)) (fun (p : Fin 4096) (d : Fin 3) => A2 (ix4 (⟨b.val / 16, by omega⟩ : Fin 8) (⟨b.val % 16, by omega⟩ : Fin 16) p ⟨3 + d.val, by omega⟩)) i := by
  rw [RefHead.v235_apply, RefPoints.v151_apply, ← hb]
  obtain ⟨t, ht⟩ := hJ b n i
  rw [ht, sub_add_real, RefHead.v231_apply]
  unfold Spec.jointDisp
  refine Finset.sum_congr rfl fun k _ => ?_
  rw [RefRot.rotation, RefHead.local_disp]
  have hp := fun o => pool_eq A0 A1 A2 A3 A4 A5 A6 A7 A8 A9 A10 A11 A14 A15 hJ hN hW hC b n o
  have hf : (fun c => val_main_v216 (F := Ideal) A0 A1 A2 A3 A4 A5 A6 A7 A8 A9 A10 A11 A12 A13 A14 A15 (ix3 b c n)) = Spec.jointFeat (fun d o => A12 (ix2 d o)) (fun o => A13 (ix1 o)) (fun k => val_main_v25 (F := Ideal) A0 A1 A4 A5 A6 A7 A8 A9 A10 A11 (ix3 b n k)) (fun o => Spec.poolOver (fun p => Spec.dist ((fun (p : Fin 4096) (d : Fin 3) => A2 (ix4 (⟨b.val / 16, by omega⟩ : Fin 8) (⟨b.val % 16, by omega⟩ : Fin 16) p ⟨d.val, by omega⟩)) p) (fun k => val_main_v25 (F := Ideal) A0 A1 A4 A5 A6 A7 A8 A9 A10 A11 (ix3 b n k)) < Spec.radius) (fun p => Spec.feat (fun k => A14 (ix2 ⟨k.val, by omega⟩ o)) (fun k => A14 (ix2 ⟨3 + k.val, by omega⟩ o)) (A15 (ix1 o)) (Spec.rot (RefRot.bone A3 n) (fun k => val_main_v25 (F := Ideal) A0 A1 A4 A5 A6 A7 A8 A9 A10 A11 (ix3 b n k))) (fun k => val_main_v25 (F := Ideal) A0 A1 A4 A5 A6 A7 A8 A9 A10 A11 (ix3 b n k)) ((fun (p : Fin 4096) (d : Fin 3) => A2 (ix4 (⟨b.val / 16, by omega⟩ : Fin 8) (⟨b.val % 16, by omega⟩ : Fin 16) p ⟨d.val, by omega⟩)) p) ((fun (p : Fin 4096) (d : Fin 3) => A2 (ix4 (⟨b.val / 16, by omega⟩ : Fin 8) (⟨b.val % 16, by omega⟩ : Fin 16) p ⟨3 + d.val, by omega⟩)) p))) := by
    funext c
    rw [RefHead.joint_feat]
    simp only [hp, RefPoints.v151_apply]
  rw [hf]

end Cert.RefValue

end
-- ==== Proof.Link.lean ====
/- The kernel's two results are the reference's. -/
module

public import proofs.«01_k».proof.Proof.KernelValue
public import proofs.«01_k».proof.Proof.RefJoints
public import proofs.«01_k».proof.Proof.RefRot
public import proofs.«01_k».proof.Proof.RefValue

@[expose] public section

set_option maxRecDepth 16384

noncomputable section

namespace Cert.Link

open Cert.ReferenceIdeal.Read
open Cert.KernelIdeal Cert.KernelIdeal.Gen
open Idealize.ShloMosaic Idealize.ShloMosaic.TcCoe Idealize.SL.Sem

variable (A0 : FVec Ideal S8x16x12 .f32) (A1 : FVec Ideal S8x16x1024x6 .f32) (A2 : FVec Ideal S8x16x4096x6 .f32) (A3 : FVec Ideal S1x21x3 .f32) (A4 : FVec Ideal S6x128 .f32) (A5 : FVec Ideal S128 .f32) (A6 : FVec Ideal S128x256 .f32) (A7 : FVec Ideal S256 .f32) (A8 : FVec Ideal S268x512 .f32) (A9 : FVec Ideal S512 .f32) (A10 : FVec Ideal S512x60 .f32) (A11 : FVec Ideal S60 .f32) (A12 : FVec Ideal S3x128 .f32) (A13 : FVec Ideal S128 .f32) (A14 : FVec Ideal S6x128 .f32) (A15 : FVec Ideal S128 .f32) (A16 : FVec Ideal S256x256 .f32) (A17 : FVec Ideal S256 .f32) (A18 : FVec Ideal S256x3 .f32) (A19 : FVec Ideal S3 .f32)

theorem template_apply (n : Fin 20) (k : Fin 3) : KernelValue.template A3 (ix2 n k) = RefRot.bone A3 n k := by
  unfold RefRot.bone
  pointwise [KernelValue.template]

theorem joint_apply (b : Fin 128) (n : Fin 20) (k : Fin 3) : val_main_v25 (F := Ideal) A0 A1 A4 A5 A6 A7 A8 A9 A10 A11 (ix3 b n k) = val_main_v24 (F := Ideal) A0 A1 A4 A5 A6 A7 A8 A9 A10 A11 (ix2 b ⟨3 * n.val + k.val, by omega⟩) := by
  have e : (⟨3 * n.val + k.val, by omega⟩ : Fin 60) = ⟨n.val * 3 + k.val, by omega⟩ := Fin.ext (by dsimp only; omega)
  rw [e]
  pointwise [val_main_v25]

/-- The joints. -/
theorem link1 : shapeCast S8x16x20x3 (KernelValue.joints A0 A1 A4 A5 A6 A7 A8 A9 A10 A11) shapeCasts_S128x60_S8x16x20x3 = val_main_v26 (F := Ideal) A0 A1 A4 A5 A6 A7 A8 A9 A10 A11 := by
  rw [RefJoints.joints_eq]
  funext y
  idx_vars y
  pointwise [val_main_v26, val_main_v25]

/-- The displacements. -/
theorem link2 (hJ : ∀ b n k, Spec.Real' (val_main_v25 (F := Ideal) A0 A1 A4 A5 A6 A7 A8 A9 A10 A11 (ix3 b n k))) (hN : ∀ b p (k : Fin 3), Spec.Real' (val_main_v157 (F := Ideal) A2 (ix3 b p ⟨3 + k.val, by omega⟩))) (hW : ∀ k o, Spec.Real' (A14 (ix2 k o))) (hC : ∀ b n, (Finset.univ.filter fun p : Fin 4096 => val_main_v165 (F := Ideal) A0 A1 A2 A4 A5 A6 A7 A8 A9 A10 A11 (ix3 b n p) < Spec.radius).card ≤ 300) :
    shapeCast S8x16x20x3 (transpose S128x20x3 [0, 2, 1]
      (KernelValue.disps A2 A12 A13 A14 A15 A16 A17 A18 A19 (KernelValue.joints A0 A1 A4 A5 A6 A7 A8 A9 A10 A11) (KernelValue.template A3)) transposes_S128x3x20_S128x20x3_0_2_1) shapeCasts_S128x20x3_S8x16x20x3
      = val_main_v235 (F := Ideal) A0 A1 A2 A3 A4 A5 A6 A7 A8 A9 A10 A11 A12 A13 A14 A15 A16 A17 A18 A19 := by
  funext y
  idx_vars y
  rw [RefValue.disp_eq A0 A1 A2 A3 A4 A5 A6 A7 A8 A9 A10 A11 A12 A13 A14 A15 A16 A17 A18 A19 hJ hN hW hC y0 y1 y2 y3 ⟨y0.val * 16 + y1.val, by omega⟩ rfl]
  have h := KernelValue.disps_apply A2 A12 A13 A14 A15 A16 A17 A18 A19 (KernelValue.joints A0 A1 A4 A5 A6 A7 A8 A9 A10 A11) (KernelValue.template A3) ⟨y0.val * 16 + y1.val, by omega⟩ y3 y2
  rw [RefJoints.joints_eq] at h ⊢
  simp only [template_apply, ← joint_apply] at h
  refine Eq.trans ?_ h
  pointwise []

end Cert.Link

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_few_near
public import proofs.«01_k».proof.Proof.Launch
public import proofs.«01_k».proof.Proof.KernelValue
public import proofs.«01_k».proof.Proof.Few
public import proofs.«01_k».proof.Proof.Link
public import Idealize.ShloMosaic.Adequacy
public import Idealize.ShloMosaic.Init

@[expose] public section

set_option maxRecDepth 16384

noncomputable section

namespace Cert.Proof

open Idealize.ShloMosaic Idealize.SL.Sem

theorem same_v26 (A0 B0 : FVec Ideal Cert.ReferenceIdeal.S8x16x12 .f32) (A1 B1 : FVec Ideal Cert.ReferenceIdeal.S8x16x1024x6 .f32) (A4 B4 : FVec Ideal Cert.ReferenceIdeal.S6x128 .f32) (A5 B5 : FVec Ideal Cert.ReferenceIdeal.S128 .f32) (A6 B6 : FVec Ideal Cert.ReferenceIdeal.S128x256 .f32) (A7 B7 : FVec Ideal Cert.ReferenceIdeal.S256 .f32) (A8 B8 : FVec Ideal Cert.ReferenceIdeal.S268x512 .f32) (A9 B9 : FVec Ideal Cert.ReferenceIdeal.S512 .f32) (A10 B10 : FVec Ideal Cert.ReferenceIdeal.S512x60 .f32) (A11 B11 : FVec Ideal Cert.ReferenceIdeal.S60 .f32) (h0 : B0 = A0) (h1 : B1 = A1) (h4 : B4 = A4) (h5 : B5 = A5) (h6 : B6 = A6) (h7 : B7 = A7) (h8 : B8 = A8) (h9 : B9 = A9) (h10 : B10 = A10) (h11 : B11 = A11) :
    Cert.ReferenceIdeal.Read.val_main_v26 (F := Ideal) B0 B1 B4 B5 B6 B7 B8 B9 B10 B11 = Cert.ReferenceIdeal.Read.val_main_v26 (F := Ideal) A0 A1 A4 A5 A6 A7 A8 A9 A10 A11 := by
  subst h0 h1 h4 h5 h6 h7 h8 h9 h10 h11
  rfl

theorem same_v235 (A0 B0 : FVec Ideal Cert.ReferenceIdeal.S8x16x12 .f32) (A1 B1 : FVec Ideal Cert.ReferenceIdeal.S8x16x1024x6 .f32) (A2 B2 : FVec Ideal Cert.ReferenceIdeal.S8x16x4096x6 .f32) (A3 B3 : FVec Ideal Cert.ReferenceIdeal.S1x21x3 .f32) (A4 B4 : FVec Ideal Cert.ReferenceIdeal.S6x128 .f32) (A5 B5 : FVec Ideal Cert.ReferenceIdeal.S128 .f32) (A6 B6 : FVec Ideal Cert.ReferenceIdeal.S128x256 .f32) (A7 B7 : FVec Ideal Cert.ReferenceIdeal.S256 .f32) (A8 B8 : FVec Ideal Cert.ReferenceIdeal.S268x512 .f32) (A9 B9 : FVec Ideal Cert.ReferenceIdeal.S512 .f32) (A10 B10 : FVec Ideal Cert.ReferenceIdeal.S512x60 .f32) (A11 B11 : FVec Ideal Cert.ReferenceIdeal.S60 .f32) (A12 B12 : FVec Ideal Cert.ReferenceIdeal.S3x128 .f32) (A13 B13 : FVec Ideal Cert.ReferenceIdeal.S128 .f32) (A14 B14 : FVec Ideal Cert.ReferenceIdeal.S6x128 .f32) (A15 B15 : FVec Ideal Cert.ReferenceIdeal.S128 .f32) (A16 B16 : FVec Ideal Cert.ReferenceIdeal.S256x256 .f32) (A17 B17 : FVec Ideal Cert.ReferenceIdeal.S256 .f32) (A18 B18 : FVec Ideal Cert.ReferenceIdeal.S256x3 .f32) (A19 B19 : FVec Ideal Cert.ReferenceIdeal.S3 .f32) (h0 : B0 = A0) (h1 : B1 = A1) (h2 : B2 = A2) (h3 : B3 = A3) (h4 : B4 = A4) (h5 : B5 = A5) (h6 : B6 = A6) (h7 : B7 = A7) (h8 : B8 = A8) (h9 : B9 = A9) (h10 : B10 = A10) (h11 : B11 = A11) (h12 : B12 = A12) (h13 : B13 = A13) (h14 : B14 = A14) (h15 : B15 = A15) (h16 : B16 = A16) (h17 : B17 = A17) (h18 : B18 = A18) (h19 : B19 = A19) :
    Cert.ReferenceIdeal.Read.val_main_v235 (F := Ideal) B0 B1 B2 B3 B4 B5 B6 B7 B8 B9 B10 B11 B12 B13 B14 B15 B16 B17 B18 B19 = Cert.ReferenceIdeal.Read.val_main_v235 (F := Ideal) A0 A1 A2 A3 A4 A5 A6 A7 A8 A9 A10 A11 A12 A13 A14 A15 A16 A17 A18 A19 := by
  subst h0 h1 h2 h3 h4 h5 h6 h7 h8 h9 h10 h11 h12 h13 h14 h15 h16 h17 h18 h19
  rfl

/-- From memories that agree on the arguments, under the precondition, both programs end with the same results. -/
theorem algebraic : Cert.algebraic_KernelIdeal_ReferenceIdeal_pre_few_near := by
  intro m g m' g' hpre hag
  refine ⟨fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), fun c => Cert.ReferenceIdeal.Read.val_main_v235 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run _ _ _).mono (fun r h c => ?_) (Cert.KernelIdeal.Launch.results (F := Ideal) m g)
    obtain ⟨e1, e2, e⟩ := h c
    obtain ⟨p0, p1, p2, p3⟩ := hpre c
    refine ⟨e1.trans ((Cert.KernelIdeal.KernelValue.result1 m g c).trans (Cert.Link.link1 _ _ _ _ _ _ _ _ _ _)),
      e2.trans ((Cert.KernelIdeal.KernelValue.result2 m g c).trans (Cert.Link.link2 _ _ _ _ _ _ _ _ _ _ _ _ _ _ _ _ _ _ _ _ ?_ ?_ ?_ ?_)), e⟩
    · exact Cert.Few.joints_real _ _ _ _ _ _ _ _ _ _ _ _ _ _ _ _ _ _ _ _ p0
    · exact Cert.Few.normals_real _ _ _ _ _ _ _ _ _ _ _ _ _ _ _ _ _ _ _ _ p1
    · exact Cert.Few.weights_real _ _ _ _ _ _ _ _ _ _ _ _ _ _ _ _ _ _ _ _ p2
    · exact Cert.Few.near_card _ _ _ _ _ _ _ _ _ _ _ _ _ _ _ _ _ _ _ _ p3
  · refine (θ_run _ _ _).mono (fun r h c => ?_) (Cert.ReferenceIdeal.Value.run (F := Ideal) m' g')
    obtain ⟨e1, e2, e⟩ := h c
    obtain ⟨h0, h1, h2, h3, h4, h5, h6, h7, h8, h9, h10, h11, h12, h13, h14, h15, h16, h17, h18, h19⟩ := hag c
    exact ⟨e1.trans ((Cert.ReferenceIdeal.Read.val_main_v26_eq _).trans (same_v26 _ _ _ _ _ _ _ _ _ _ _ _ _ _ _ _ _ _ _ _ h0 h1 h4 h5 h6 h7 h8 h9 h10 h11)),
      e2.trans ((Cert.ReferenceIdeal.Read.val_main_v235_eq _).trans (same_v235 _ _ _ _ _ _ _ _ _ _ _ _ _ _ _ _ _ _ _ _ _ _ _ _ _ _ _ _ _ _ _ _ _ _ _ _ _ _ _ _ h0 h1 h2 h3 h4 h5 h6 h7 h8 h9 h10 h11 h12 h13 h14 h15 h16 h17 h18 h19)), e⟩

/-- The reference ends with its arguments as launched; it declares no counter. -/
theorem frame_ref : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_few_near.Gen.facts,
    fun m ρ _ => Cert.Kernel.Gen.frame m ρ,
    fun m ρ _ => Cert.KernelIdeal.Gen.frame m ρ,
    fun m ρ _ => Cert.KernelIdeal.Gen.frame m ρ,
    fun m g _ => frame_ref m g trivial,
    fun m g _ => frame_ref m g trivial,
    trivial, algebraic⟩

end Cert.Proof

end
